-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attends_KernelIdeal [hPre_attends_KernelIdeal : Cert.Pre_attends_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_attends_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attends_ReferenceIdeal [hPre_attends_ReferenceIdeal : Cert.Pre_attends_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attends_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_attends_KernelIdeal [hKernelIdeal : Cert.KernelIdeal.Facts] [hPre_attends_KernelIdeal : Cert.Pre_attends_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attends_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_attends_ReferenceIdeal [hReferenceIdeal : Cert.ReferenceIdeal.Facts] [hPre_attends_ReferenceIdeal : Cert.Pre_attends_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attends_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_attends_KernelIdeal [hKernelIdeal : Cert.KernelIdeal.Facts] [hReferenceIdeal : Cert.ReferenceIdeal.Facts] [hPre_attends_KernelIdeal : Cert.Pre_attends_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attends_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![128, 16, 16, 64]⟩ ⟨4, ![512, 16, 16, 64]⟩ (Layout.meshBlock [2, 2, 4] ![[2], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![128, 16, 16, 64]⟩ ⟨4, ![512, 16, 16, 64]⟩ (Layout.meshBlock [2, 2, 4] ![[2], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_attends_KernelIdeal : Cert.Pre_attends_KernelIdeal.Facts) (hPre_attends_ReferenceIdeal : Cert.Pre_attends_ReferenceIdeal.Facts),
    quiescent_Kernel (hKernel := hKernel)
    ∧ quiescent_KernelIdeal (hKernelIdeal := hKernelIdeal)
    ∧ quiescent_KernelIdeal_pre_attends_KernelIdeal (hKernelIdeal := hKernelIdeal) (hPre_attends_KernelIdeal := hPre_attends_KernelIdeal)
    ∧ quiescent_ReferenceIdeal (hReferenceIdeal := hReferenceIdeal)
    ∧ quiescent_ReferenceIdeal_pre_attends_ReferenceIdeal (hReferenceIdeal := hReferenceIdeal) (hPre_attends_ReferenceIdeal := hPre_attends_ReferenceIdeal)
    ∧ preserves_Kernel_KernelIdeal
    ∧ algebraic_KernelIdeal_ReferenceIdeal_pre_attends_KernelIdeal (hKernelIdeal := hKernelIdeal) (hReferenceIdeal := hReferenceIdeal) (hPre_attends_KernelIdeal := hPre_attends_KernelIdeal)
-- ==== Pre_attends_KernelIdeal.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S16x1 : Shape := ⟨2, ![16, 1]⟩
abbrev S16x128x128 : Shape := ⟨3, ![16, 128, 128]⟩
abbrev S16x128x1 : Shape := ⟨3, ![16, 128, 1]⟩
abbrev S_ : Shape := ⟨0, ![]⟩
abbrev S16x128x16x16x1 : Shape := ⟨5, ![16, 128, 16, 16, 1]⟩
abbrev S16x1x16x128x16 : Shape := ⟨5, ![16, 1, 16, 128, 16]⟩
abbrev S16x1x1x128x1 : Shape := ⟨5, ![16, 1, 1, 128, 1]⟩

class Facts : Prop where
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  bcast_S16x128_S16x128x1_0_1 : S16x128.BroadcastsInDim S16x128x1 (![0, 1] : Fin 2 → Fin S16x128x1.rank)
  bcast_S_S16x128 : S_.BroadcastsInDim S16x128 (![] : Fin 0 → Fin S16x128.rank)
  bcast_S16x128x1_S16x128x128_0_1_2 : S16x128x1.BroadcastsInDim S16x128x128 (![0, 1, 2] : Fin 3 → Fin S16x128x128.rank)
  reducesTo_S16x128x128_S16x128_d1 : S16x128x128.ReducesTo [1] S16x128
  h_S_ : 0 < S_.numel
  transposes_S16x128x16x16x1_S16x1x16x128x16_3_4_0_1_2 : S16x128x16x16x1.Transposes [3, 4, 0, 1, 2] S16x1x16x128x16
  bcast_S_S16x1x16x128x16 : S_.BroadcastsInDim S16x1x16x128x16 (![] : Fin 0 → Fin S16x1x16x128x16.rank)
  bcast_S_S16 : S_.BroadcastsInDim S16 (![] : Fin 0 → Fin S16.rank)
  reducesTo_S16_S_d0 : S16.ReducesTo [0] S_
  reducesTo_S16x128_S_d0_1 : S16x128.ReducesTo [0, 1] S_
  bcast_S16x128_S16x1x1x128x1_0_3 : S16x128.BroadcastsInDim S16x1x1x128x1 (![0, 3] : Fin 2 → Fin S16x1x1x128x1.rank)
  bcast_S16x1x1x128x1_S16x1x16x128x16_0_1_2_3_4 : S16x1x1x128x1.BroadcastsInDim S16x1x16x128x16 (![0, 1, 2, 3, 4] : Fin 5 → Fin S16x1x16x128x16.rank)
  reducesTo_S16x1x16x128x16_S_d0_1_2_3_4 : S16x1x16x128x16.ReducesTo [0, 1, 2, 3, 4] S_
  dot_S128x16x16x64_S16x1x16x64_S16x128x16x16x1_3_3_01_01_2_2_wf : DotDims.WF S128x16x16x64 S16x1x16x64 S16x128x16x16x1 [3] [3] [0, 1] [0, 1] [2] [2]

variable [Facts]

def dot_S128x16x16x64_S16x1x16x64_S16x128x16x16x1_3_3_01_01_2_2 : DotDims S128x16x16x64 S16x1x16x64 S16x128x16x16x1 where
  lhsContracting := [3]
  rhsContracting := [3]
  lhsNonContracting := [0, 1]
  rhsNonContracting := [0, 1]
  lhsBatch := [2]
  rhsBatch := [2]
  wf := dot_S128x16x16x64_S16x1x16x64_S16x128x16x16x1_3_3_01_01_2_2_wf
def fn_part2 {F : FTy → Type} [FloatOps F] (main_v30 : IVec S_ 1) (main_v36 : IVec S16x1x16x128x16 1) (main_v37 : IVec S16x1x16x128x16 1) : IVec S_ 1 :=
  let main_v38 : IVec S16x1x16x128x16 1 := ori main_v37 main_v36
  let main_c_8 : IVec S_ 1 := constantI S_ 1 1#1
  let main_v39 : IVec S_ 1 := (fun x v => Host.reduce IntOp.andi x v reducesTo_S16x1x16x128x16_S_d0_1_2_3_4 h_S_) main_v38 main_c_8
  let main_v40 : IVec S_ 1 := andi main_v30 main_v39
  main_v40

def fn_part1 {F : FTy → Type} [FloatOps F] (main_arg3 : IVec S16x128 32) (main_arg4 : IVec S16 32) (main_v3 : IVec S16x128 1) (main_v14 : IVec S16x128 1) (main_v18 : FVec F S16x1x16x128x16 .f32) (main_v19 : IVec S16 32) : IVec S_ 1 :=
  let main_v20 : IVec S16 1 := cmpi .sgt main_arg4 main_v19
  let main_c_2 : IVec S_ 1 := constantI S_ 1 1#1
  let main_v21 : IVec S_ 1 := (fun x v => Host.reduce IntOp.andi x v reducesTo_S16_S_d0 h_S_) main_v20 main_c_2
  let main_v22 : IVec S16x128 1 := noti main_v3
  let main_c_3 : IVec S_ 32 := constantI S_ 32 0#32
  let main_v23 : IVec S16x128 32 := broadcastInDim S16x128 ![] bcast_S_S16x128 main_c_3
  let main_v24 : IVec S16x128 1 := cmpi .sge main_arg3 main_v23
  let main_c_4 : IVec S_ 32 := constantI S_ 32 512#32
  let main_v25 : IVec S16x128 32 := broadcastInDim S16x128 ![] bcast_S_S16x128 main_c_4
  let main_v26 : IVec S16x128 1 := cmpi .slt main_arg3 main_v25
  let main_v27 : IVec S16x128 1 := andi main_v24 main_v26
  let main_v28 : IVec S16x128 1 := ori main_v22 main_v27
  let main_c_5 : IVec S_ 1 := constantI S_ 1 1#1
  let main_v29 : IVec S_ 1 := (fun x v => Host.reduce IntOp.andi x v reducesTo_S16x128_S_d0_1 h_S_) main_v28 main_c_5
  let main_v30 : IVec S_ 1 := andi main_v21 main_v29
  let main_v31 : IVec S16x1x1x128x1 1 := broadcastInDim S16x1x1x128x1 ![0, 3] bcast_S16x128_S16x1x1x128x1_0_3 main_v14
  let main_cst_6 : FVec F S_ .f32 := constant S_ .f32 0xEFA18F08#32
  let main_v32 : FVec F S16x1x16x128x16 .f32 := broadcastInDim S16x1x16x128x16 ![] bcast_S_S16x1x16x128x16 main_cst_6
  let main_v33 : IVec S16x1x16x128x16 1 := cmpf .oge main_v18 main_v32
  let main_cst_7 : FVec F S_ .f32 := constant S_ .f32 0x7F800000#32
  let main_v34 : FVec F S16x1x16x128x16 .f32 := broadcastInDim S16x1x16x128x16 ![] bcast_S_S16x1x16x128x16 main_cst_7
  let main_v35 : IVec S16x1x16x128x16 1 := cmpf .olt main_v18 main_v34
  let main_v36 : IVec S16x1x16x128x16 1 := andi main_v33 main_v35
  let main_v37 : IVec S16x1x16x128x16 1 := broadcastInDim S16x1x16x128x16 ![0, 1, 2, 3, 4] bcast_S16x1x1x128x1_S16x1x16x128x16_0_1_2_3_4 main_v31
  fn_part2 (F := F) main_v30 main_v36 main_v37

def fn {F : FTy → Type} [FloatOps F] (main_arg0 : FVec F S16x1x16x64 .f32) (main_arg1 : FVec F S128x16x16x64 .f32) (main_arg2 : FVec F S128x16x16x64 .f32) (main_arg3 : IVec S16x128 32) (main_arg4 : IVec S16 32) : IVec S_ 1 :=
  let main_v0 : IVec S16x128 32 := iotaInDim S16x128 32 1
  let main_v1 : IVec S16x1 32 := broadcastInDim S16x1 ![0] bcast_S16_S16x1_0 main_arg4
  let main_v2 : IVec S16x128 32 := broadcastInDim S16x128 ![0, 1] bcast_S16x1_S16x128_0_1 main_v1
  let main_v3 : IVec S16x128 1 := cmpi .slt main_v0 main_v2
  let main_v4 : IVec S16x128x128 32 := iotaInDim S16x128x128 32 2
  let main_v5 : IVec S16x128x1 1 := broadcastInDim S16x128x1 ![0, 1] bcast_S16x128_S16x128x1_0_1 main_v3
  let main_c : IVec S_ 32 := constantI S_ 32 127#32
  let main_v6 : IVec S16x128 32 := broadcastInDim S16x128 ![] bcast_S_S16x128 main_c
  let main_v7 : IVec S16x128 32 := andi main_arg3 main_v6
  let main_v8 : IVec S16x128x1 32 := broadcastInDim S16x128x1 ![0, 1] bcast_S16x128_S16x128x1_0_1 main_v7
  let main_v9 : IVec S16x128x128 32 := broadcastInDim S16x128x128 ![0, 1, 2] bcast_S16x128x1_S16x128x128_0_1_2 main_v8
  let main_v10 : IVec S16x128x128 1 := cmpi .eq main_v9 main_v4
  let main_v11 : IVec S16x128x128 1 := broadcastInDim S16x128x128 ![0, 1, 2] bcast_S16x128x1_S16x128x128_0_1_2 main_v5
  let main_v12 : IVec S16x128x128 1 := andi main_v11 main_v10
  let main_v13 : IVec S16x128x128 1 := noti main_v12
  let main_c_0 : IVec S_ 1 := constantI S_ 1 1#1
  let main_v14 : IVec S16x128 1 := (fun x v => Host.reduce IntOp.andi x v reducesTo_S16x128x128_S16x128_d1 h_S_) main_v13 main_c_0
  let main_v15 : FVec F S16x128x16x16x1 .f32 := (fun l r => Host.dotGeneral dot_S128x16x16x64_S16x1x16x64_S16x128x16x16x1_3_3_01_01_2_2 none l r) main_arg1 main_arg0
  let main_v16 : FVec F S16x1x16x128x16 .f32 := (transpose S16x1x16x128x16 [3, 4, 0, 1, 2] · transposes_S16x128x16x16x1_S16x1x16x128x16_3_4_0_1_2) main_v15
  let main_cst : FVec F S_ .f32 := constant S_ .f32 0x3E000000#32
  let main_v17 : FVec F S16x1x16x128x16 .f32 := broadcastInDim S16x1x16x128x16 ![] bcast_S_S16x1x16x128x16 main_cst
  let main_v18 : FVec F S16x1x16x128x16 .f32 := mulf main_v16 main_v17
  let main_c_1 : IVec S_ 32 := constantI S_ 32 0#32
  let main_v19 : IVec S16 32 := broadcastInDim S16 ![] bcast_S_S16 main_c_1
  fn_part1 (F := F) main_arg3 main_arg4 main_v3 main_v14 main_v18 main_v19
-- ==== Pre_attends_ReferenceIdeal.lean ====
abbrev S16x1x16x64 : Shape := ⟨4, ![16, 1, 16, 64]⟩
abbrev S512x16x16x64 : Shape := ⟨4, ![512, 16, 16, 64]⟩
abbrev S16x128 : Shape := ⟨2, ![16, 128]⟩
abbrev S16 : Shape := ⟨1, ![16]⟩
abbrev S16x1 : Shape := ⟨2, ![16, 1]⟩
abbrev S16x128x512 : Shape := ⟨3, ![16, 128, 512]⟩
abbrev S16x128x1 : Shape := ⟨3, ![16, 128, 1]⟩
abbrev S_ : Shape := ⟨0, ![]⟩
abbrev S16x512 : Shape := ⟨2, ![16, 512]⟩
abbrev S16x512x16x16x1 : Shape := ⟨5, ![16, 512, 16, 16, 1]⟩
abbrev S16x1x16x512x16 : Shape := ⟨5, ![16, 1, 16, 512, 16]⟩
abbrev S16x1x1x512x1 : Shape := ⟨5, ![16, 1, 1, 512, 1]⟩

class Facts : Prop where
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  bcast_S16x128_S16x128x1_0_1 : S16x128.BroadcastsInDim S16x128x1 (![0, 1] : Fin 2 → Fin S16x128x1.rank)
  bcast_S_S16x128 : S_.BroadcastsInDim S16x128 (![] : Fin 0 → Fin S16x128.rank)
  bcast_S16x128x1_S16x128x512_0_1_2 : S16x128x1.BroadcastsInDim S16x128x512 (![0, 1, 2] : Fin 3 → Fin S16x128x512.rank)
  reducesTo_S16x128x512_S16x512_d1 : S16x128x512.ReducesTo [1] S16x512
  h_S_ : 0 < S_.numel
  transposes_S16x512x16x16x1_S16x1x16x512x16_3_4_0_1_2 : S16x512x16x16x1.Transposes [3, 4, 0, 1, 2] S16x1x16x512x16
  bcast_S_S16x1x16x512x16 : S_.BroadcastsInDim S16x1x16x512x16 (![] : Fin 0 → Fin S16x1x16x512x16.rank)
  bcast_S_S16 : S_.BroadcastsInDim S16 (![] : Fin 0 → Fin S16.rank)
  reducesTo_S16_S_d0 : S16.ReducesTo [0] S_
  reducesTo_S16x128_S_d0_1 : S16x128.ReducesTo [0, 1] S_
  bcast_S16x512_S16x1x1x512x1_0_3 : S16x512.BroadcastsInDim S16x1x1x512x1 (![0, 3] : Fin 2 → Fin S16x1x1x512x1.rank)
  bcast_S16x1x1x512x1_S16x1x16x512x16_0_1_2_3_4 : S16x1x1x512x1.BroadcastsInDim S16x1x16x512x16 (![0, 1, 2, 3, 4] : Fin 5 → Fin S16x1x16x512x16.rank)
  reducesTo_S16x1x16x512x16_S_d0_1_2_3_4 : S16x1x16x512x16.ReducesTo [0, 1, 2, 3, 4] S_
  dot_S512x16x16x64_S16x1x16x64_S16x512x16x16x1_3_3_01_01_2_2_wf : DotDims.WF S512x16x16x64 S16x1x16x64 S16x512x16x16x1 [3] [3] [0, 1] [0, 1] [2] [2]

variable [Facts]

def dot_S512x16x16x64_S16x1x16x64_S16x512x16x16x1_3_3_01_01_2_2 : DotDims S512x16x16x64 S16x1x16x64 S16x512x16x16x1 where
  lhsContracting := [3]
  rhsContracting := [3]
  lhsNonContracting := [0, 1]
  rhsNonContracting := [0, 1]
  lhsBatch := [2]
  rhsBatch := [2]
  wf := dot_S512x16x16x64_S16x1x16x64_S16x512x16x16x1_3_3_01_01_2_2_wf
def fn_part2 {F : FTy → Type} [FloatOps F] (main_v30 : IVec S_ 1) (main_v36 : IVec S16x1x16x512x16 1) (main_v37 : IVec S16x1x16x512x16 1) : IVec S_ 1 :=
  let main_v38 : IVec S16x1x16x512x16 1 := ori main_v37 main_v36
  let main_c_8 : IVec S_ 1 := constantI S_ 1 1#1
  let main_v39 : IVec S_ 1 := (fun x v => Host.reduce IntOp.andi x v reducesTo_S16x1x16x512x16_S_d0_1_2_3_4 h_S_) main_v38 main_c_8
  let main_v40 : IVec S_ 1 := andi main_v30 main_v39
  main_v40

def fn_part1 {F : FTy → Type} [FloatOps F] (main_arg3 : IVec S16x128 32) (main_arg4 : IVec S16 32) (main_v3 : IVec S16x128 1) (main_v14 : IVec S16x512 1) (main_v18 : FVec F S16x1x16x512x16 .f32) (main_v19 : IVec S16 32) : IVec S_ 1 :=
  let main_v20 : IVec S16 1 := cmpi .sgt main_arg4 main_v19
  let main_c_2 : IVec S_ 1 := constantI S_ 1 1#1
  let main_v21 : IVec S_ 1 := (fun x v => Host.reduce IntOp.andi x v reducesTo_S16_S_d0 h_S_) main_v20 main_c_2
  let main_v22 : IVec S16x128 1 := noti main_v3
  let main_c_3 : IVec S_ 32 := constantI S_ 32 0#32
  let main_v23 : IVec S16x128 32 := broadcastInDim S16x128 ![] bcast_S_S16x128 main_c_3
  let main_v24 : IVec S16x128 1 := cmpi .sge main_arg3 main_v23
  let main_c_4 : IVec S_ 32 := constantI S_ 32 512#32
  let main_v25 : IVec S16x128 32 := broadcastInDim S16x128 ![] bcast_S_S16x128 main_c_4
  let main_v26 : IVec S16x128 1 := cmpi .slt main_arg3 main_v25
  let main_v27 : IVec S16x128 1 := andi main_v24 main_v26
  let main_v28 : IVec S16x128 1 := ori main_v22 main_v27
  let main_c_5 : IVec S_ 1 := constantI S_ 1 1#1
  let main_v29 : IVec S_ 1 := (fun x v => Host.reduce IntOp.andi x v reducesTo_S16x128_S_d0_1 h_S_) main_v28 main_c_5
  let main_v30 : IVec S_ 1 := andi main_v21 main_v29
  let main_v31 : IVec S16x1x1x512x1 1 := broadcastInDim S16x1x1x512x1 ![0, 3] bcast_S16x512_S16x1x1x512x1_0_3 main_v14
  let main_cst_6 : FVec F S_ .f32 := constant S_ .f32 0xEFA18F08#32
  let main_v32 : FVec F S16x1x16x512x16 .f32 := broadcastInDim S16x1x16x512x16 ![] bcast_S_S16x1x16x512x16 main_cst_6
  let main_v33 : IVec S16x1x16x512x16 1 := cmpf .oge main_v18 main_v32
  let main_cst_7 : FVec F S_ .f32 := constant S_ .f32 0x7F800000#32
  let main_v34 : FVec F S16x1x16x512x16 .f32 := broadcastInDim S16x1x16x512x16 ![] bcast_S_S16x1x16x512x16 main_cst_7
  let main_v35 : IVec S16x1x16x512x16 1 := cmpf .olt main_v18 main_v34
  let main_v36 : IVec S16x1x16x512x16 1 := andi main_v33 main_v35
  let main_v37 : IVec S16x1x16x512x16 1 := broadcastInDim S16x1x16x512x16 ![0, 1, 2, 3, 4] bcast_S16x1x1x512x1_S16x1x16x512x16_0_1_2_3_4 main_v31
  fn_part2 (F := F) main_v30 main_v36 main_v37

def fn {F : FTy → Type} [FloatOps F] (main_arg0 : FVec F S16x1x16x64 .f32) (main_arg1 : FVec F S512x16x16x64 .f32) (main_arg2 : FVec F S512x16x16x64 .f32) (main_arg3 : IVec S16x128 32) (main_arg4 : IVec S16 32) : IVec S_ 1 :=
  let main_v0 : IVec S16x128 32 := iotaInDim S16x128 32 1
  let main_v1 : IVec S16x1 32 := broadcastInDim S16x1 ![0] bcast_S16_S16x1_0 main_arg4
  let main_v2 : IVec S16x128 32 := broadcastInDim S16x128 ![0, 1] bcast_S16x1_S16x128_0_1 main_v1
  let main_v3 : IVec S16x128 1 := cmpi .slt main_v0 main_v2
  let main_v4 : IVec S16x128x512 32 := iotaInDim S16x128x512 32 2
  let main_v5 : IVec S16x128x1 1 := broadcastInDim S16x128x1 ![0, 1] bcast_S16x128_S16x128x1_0_1 main_v3
  let main_c : IVec S_ 32 := constantI S_ 32 511#32
  let main_v6 : IVec S16x128 32 := broadcastInDim S16x128 ![] bcast_S_S16x128 main_c
  let main_v7 : IVec S16x128 32 := andi main_arg3 main_v6
  let main_v8 : IVec S16x128x1 32 := broadcastInDim S16x128x1 ![0, 1] bcast_S16x128_S16x128x1_0_1 main_v7
  let main_v9 : IVec S16x128x512 32 := broadcastInDim S16x128x512 ![0, 1, 2] bcast_S16x128x1_S16x128x512_0_1_2 main_v8
  let main_v10 : IVec S16x128x512 1 := cmpi .eq main_v9 main_v4
  let main_v11 : IVec S16x128x512 1 := broadcastInDim S16x128x512 ![0, 1, 2] bcast_S16x128x1_S16x128x512_0_1_2 main_v5
  let main_v12 : IVec S16x128x512 1 := andi main_v11 main_v10
  let main_v13 : IVec S16x128x512 1 := noti main_v12
  let main_c_0 : IVec S_ 1 := constantI S_ 1 1#1
  let main_v14 : IVec S16x512 1 := (fun x v => Host.reduce IntOp.andi x v reducesTo_S16x128x512_S16x512_d1 h_S_) main_v13 main_c_0
  let main_v15 : FVec F S16x512x16x16x1 .f32 := (fun l r => Host.dotGeneral dot_S512x16x16x64_S16x1x16x64_S16x512x16x16x1_3_3_01_01_2_2 none l r) main_arg1 main_arg0
  let main_v16 : FVec F S16x1x16x512x16 .f32 := (transpose S16x1x16x512x16 [3, 4, 0, 1, 2] · transposes_S16x512x16x16x1_S16x1x16x512x16_3_4_0_1_2) main_v15
  let main_cst : FVec F S_ .f32 := constant S_ .f32 0x3E000000#32
  let main_v17 : FVec F S16x1x16x512x16 .f32 := broadcastInDim S16x1x16x512x16 ![] bcast_S_S16x1x16x512x16 main_cst
  let main_v18 : FVec F S16x1x16x512x16 .f32 := mulf main_v16 main_v17
  let main_c_1 : IVec S_ 32 := constantI S_ 32 0#32
  let main_v19 : IVec S16 32 := broadcastInDim S16 ![] bcast_S_S16 main_c_1
  fn_part1 (F := F) main_arg3 main_arg4 main_v3 main_v14 main_v18 main_v19
-- ==== Kernel.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S16x1024 : Shape := ⟨2, ![16, 1024]⟩
abbrev S2048x1024 : Shape := ⟨2, ![2048, 1024]⟩
abbrev S16x1 : Shape := ⟨2, ![16, 1]⟩
abbrev S16x16x64 : Shape := ⟨3, ![16, 16, 64]⟩
abbrev S4x16x16x66 : Shape := ⟨4, ![4, 16, 16, 66]⟩
abbrev S3 : Shape := ⟨1, ![3]⟩
abbrev S4 : Shape := ⟨1, ![4]⟩
abbrev S_ : Shape := ⟨0, ![]⟩
abbrev S1x1x128 : Shape := ⟨3, ![1, 1, 128]⟩
abbrev S16x128x1 : Shape := ⟨3, ![16, 128, 1]⟩
abbrev S16x1x1 : Shape := ⟨3, ![16, 1, 1]⟩
abbrev S16x128x128 : Shape := ⟨3, ![16, 128, 128]⟩
abbrev S16x128x16 : Shape := ⟨3, ![16, 128, 16]⟩
abbrev S16x2048 : Shape := ⟨2, ![16, 2048]⟩
abbrev S16x64 : Shape := ⟨2, ![16, 64]⟩
abbrev S2048x64 : Shape := ⟨2, ![2048, 64]⟩
abbrev S1x16x1x64 : Shape := ⟨4, ![1, 16, 1, 64]⟩
abbrev S1x16x1x1 : Shape := ⟨4, ![1, 16, 1, 1]⟩
abbrev S1 : Shape := ⟨1, ![1]⟩
abbrev S1x16x16x66 : Shape := ⟨4, ![1, 16, 16, 66]⟩
abbrev S16x16x66 : Shape := ⟨3, ![16, 16, 66]⟩
abbrev S4x16x16x64 : Shape := ⟨4, ![4, 16, 16, 64]⟩
abbrev S4x16x16x1 : Shape := ⟨4, ![4, 16, 16, 1]⟩
abbrev S16x16x1 : Shape := ⟨3, ![16, 16, 1]⟩
abbrev S1x16x16x1 : Shape := ⟨4, ![1, 16, 16, 1]⟩

abbrev nBuf : Space → Nat
  | .hbm => 11
  | .vmem => 7
  | .smem => 0
  | _ => 0

abbrev bufTy : (tb : Table) → Fin (tcTables nBuf tb) → BufTy
  | .hbm, ⟨0, _⟩ => ⟨S16x1x16x64, .f32⟩
  | .hbm, ⟨1, _⟩ => ⟨S128x16x16x64, .f32⟩
  | .hbm, ⟨2, _⟩ => ⟨S128x16x16x64, .f32⟩
  | .hbm, ⟨3, _⟩ => ⟨S16x128, .i32⟩
  | .hbm, ⟨4, _⟩ => ⟨S16, .i32⟩
  | .hbm, ⟨5, _⟩ => ⟨S16x1024, .f32⟩
  | .hbm, ⟨6, _⟩ => ⟨S2048x1024, .f32⟩
  | .hbm, ⟨7, _⟩ => ⟨S2048x1024, .f32⟩
  | .hbm, ⟨8, _⟩ => ⟨S16x1, .i32⟩
  | .hbm, ⟨9, _⟩ => ⟨S16x16x64, .f32⟩
  | .hbm, ⟨10, _⟩ => ⟨S16x1x16x64, .f32⟩
  | .local _ .vmem, ⟨0, _⟩ => ⟨S16x1024, .f32⟩
  | .local _ .vmem, ⟨1, _⟩ => ⟨S2048x1024, .f32⟩
  | .local _ .vmem, ⟨2, _⟩ => ⟨S2048x1024, .f32⟩
  | .local _ .vmem, ⟨3, _⟩ => ⟨S16x128, .i32⟩
  | .local _ .vmem, ⟨4, _⟩ => ⟨S16x1, .i32⟩
  | .local _ .vmem, ⟨5, _⟩ => ⟨S16x16x64, .f32⟩
  | .local _ .vmem, ⟨6, _⟩ => ⟨S4x16x16x66, .f32⟩
  | _, _ => ⟨S16x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v21 : BitVec 32 := Scalar.muli v2 c8_i32_9
  let v22 : BitVec 32 := Scalar.addi c0_i32_10 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v38 : BitVec 32 := Scalar.muli v2 c8_i32_21
  let v39 : BitVec 32 := Scalar.addi c0_i32_22 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v55 : BitVec 32 := Scalar.muli v2 c8_i32_32
  let v56 : BitVec 32 := Scalar.addi c0_i32_33 v55
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_off1 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v111 : Index := Scalar.indexCast v8
  let c0_55 : Index := 0#32
  let c0_56 : Index := 0#32
  let c0_57 : Index := 0#32
  ![v111.toNat, 0, 0, 0]
def k0_off2 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v116 : Index := Scalar.indexCast v8
  let c0_58 : Index := 0#32
  let c0_59 : Index := 0#32
  let c64 : Index := 64#32
  ![v116.toNat, 0, 0, 64]
def k0_off3 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v121 : Index := Scalar.indexCast v8
  let c0_60 : Index := 0#32
  let c0_61 : Index := 0#32
  let c65 : Index := 65#32
  ![v121.toNat, 0, 0, 65]
def k0_off4 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v148 : Index := Scalar.indexCast v8
  let c0_76 : Index := 0#32
  let c1 : Index := 1#32
  let c0_77 : Index := 0#32
  ![v148.toNat, 0, 1, 0]
def k0_off5 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v153 : Index := Scalar.indexCast v8
  let c0_78 : Index := 0#32
  let c1_79 : Index := 1#32
  let c64_80 : Index := 64#32
  ![v153.toNat, 0, 1, 64]
def k0_off6 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v158 : Index := Scalar.indexCast v8
  let c0_81 : Index := 0#32
  let c1_82 : Index := 1#32
  let c65_83 : Index := 65#32
  ![v158.toNat, 0, 1, 65]
def k0_off7 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v185 : Index := Scalar.indexCast v8
  let c0_97 : Index := 0#32
  let c2 : Index := 2#32
  let c0_98 : Index := 0#32
  ![v185.toNat, 0, 2, 0]
def k0_off8 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v190 : Index := Scalar.indexCast v8
  let c0_99 : Index := 0#32
  let c2_100 : Index := 2#32
  let c64_101 : Index := 64#32
  ![v190.toNat, 0, 2, 64]
def k0_off9 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v195 : Index := Scalar.indexCast v8
  let c0_102 : Index := 0#32
  let c2_103 : Index := 2#32
  let c65_104 : Index := 65#32
  ![v195.toNat, 0, 2, 65]
def k0_off10 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v222 : Index := Scalar.indexCast v8
  let c0_118 : Index := 0#32
  let c3 : Index := 3#32
  let c0_119 : Index := 0#32
  ![v222.toNat, 0, 3, 0]
def k0_off11 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v227 : Index := Scalar.indexCast v8
  let c0_120 : Index := 0#32
  let c3_121 : Index := 3#32
  let c64_122 : Index := 64#32
  ![v227.toNat, 0, 3, 64]
def k0_off12 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v232 : Index := Scalar.indexCast v8
  let c0_123 : Index := 0#32
  let c3_124 : Index := 3#32
  let c65_125 : Index := 65#32
  ![v232.toNat, 0, 3, 65]
def k0_off13 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v259 : Index := Scalar.indexCast v8
  let c0_139 : Index := 0#32
  let c4 : Index := 4#32
  let c0_140 : Index := 0#32
  ![v259.toNat, 0, 4, 0]
def k0_off14 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v264 : Index := Scalar.indexCast v8
  let c0_141 : Index := 0#32
  let c4_142 : Index := 4#32
  let c64_143 : Index := 64#32
  ![v264.toNat, 0, 4, 64]
def k0_off15 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v269 : Index := Scalar.indexCast v8
  let c0_144 : Index := 0#32
  let c4_145 : Index := 4#32
  let c65_146 : Index := 65#32
  ![v269.toNat, 0, 4, 65]
def k0_off16 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v296 : Index := Scalar.indexCast v8
  let c0_160 : Index := 0#32
  let c5 : Index := 5#32
  let c0_161 : Index := 0#32
  ![v296.toNat, 0, 5, 0]
def k0_off17 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v301 : Index := Scalar.indexCast v8
  let c0_162 : Index := 0#32
  let c5_163 : Index := 5#32
  let c64_164 : Index := 64#32
  ![v301.toNat, 0, 5, 64]
def k0_off18 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v306 : Index := Scalar.indexCast v8
  let c0_165 : Index := 0#32
  let c5_166 : Index := 5#32
  let c65_167 : Index := 65#32
  ![v306.toNat, 0, 5, 65]
def k0_off19 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v333 : Index := Scalar.indexCast v8
  let c0_181 : Index := 0#32
  let c6 : Index := 6#32
  let c0_182 : Index := 0#32
  ![v333.toNat, 0, 6, 0]
def k0_off20 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v338 : Index := Scalar.indexCast v8
  let c0_183 : Index := 0#32
  let c6_184 : Index := 6#32
  let c64_185 : Index := 64#32
  ![v338.toNat, 0, 6, 64]
def k0_off21 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v343 : Index := Scalar.indexCast v8
  let c0_186 : Index := 0#32
  let c6_187 : Index := 6#32
  let c65_188 : Index := 65#32
  ![v343.toNat, 0, 6, 65]
def k0_off22 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v370 : Index := Scalar.indexCast v8
  let c0_202 : Index := 0#32
  let c7 : Index := 7#32
  let c0_203 : Index := 0#32
  ![v370.toNat, 0, 7, 0]
def k0_off23 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v375 : Index := Scalar.indexCast v8
  let c0_204 : Index := 0#32
  let c7_205 : Index := 7#32
  let c64_206 : Index := 64#32
  ![v375.toNat, 0, 7, 64]
def k0_off24 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v380 : Index := Scalar.indexCast v8
  let c0_207 : Index := 0#32
  let c7_208 : Index := 7#32
  let c65_209 : Index := 65#32
  ![v380.toNat, 0, 7, 65]
def k0_off25 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v407 : Index := Scalar.indexCast v8
  let c0_223 : Index := 0#32
  let c8 : Index := 8#32
  let c0_224 : Index := 0#32
  ![v407.toNat, 0, 8, 0]
def k0_off26 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v412 : Index := Scalar.indexCast v8
  let c0_225 : Index := 0#32
  let c8_226 : Index := 8#32
  let c64_227 : Index := 64#32
  ![v412.toNat, 0, 8, 64]
def k0_off27 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v417 : Index := Scalar.indexCast v8
  let c0_228 : Index := 0#32
  let c8_229 : Index := 8#32
  let c65_230 : Index := 65#32
  ![v417.toNat, 0, 8, 65]
def k0_off28 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v444 : Index := Scalar.indexCast v8
  let c0_244 : Index := 0#32
  let c9 : Index := 9#32
  let c0_245 : Index := 0#32
  ![v444.toNat, 0, 9, 0]
def k0_off29 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v449 : Index := Scalar.indexCast v8
  let c0_246 : Index := 0#32
  let c9_247 : Index := 9#32
  let c64_248 : Index := 64#32
  ![v449.toNat, 0, 9, 64]
def k0_off30 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v454 : Index := Scalar.indexCast v8
  let c0_249 : Index := 0#32
  let c9_250 : Index := 9#32
  let c65_251 : Index := 65#32
  ![v454.toNat, 0, 9, 65]
def k0_off31 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v481 : Index := Scalar.indexCast v8
  let c0_265 : Index := 0#32
  let c10 : Index := 10#32
  let c0_266 : Index := 0#32
  ![v481.toNat, 0, 10, 0]
def k0_off32 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v486 : Index := Scalar.indexCast v8
  let c0_267 : Index := 0#32
  let c10_268 : Index := 10#32
  let c64_269 : Index := 64#32
  ![v486.toNat, 0, 10, 64]
def k0_off33 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v491 : Index := Scalar.indexCast v8
  let c0_270 : Index := 0#32
  let c10_271 : Index := 10#32
  let c65_272 : Index := 65#32
  ![v491.toNat, 0, 10, 65]
def k0_off34 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v518 : Index := Scalar.indexCast v8
  let c0_286 : Index := 0#32
  let c11 : Index := 11#32
  let c0_287 : Index := 0#32
  ![v518.toNat, 0, 11, 0]
def k0_off35 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v523 : Index := Scalar.indexCast v8
  let c0_288 : Index := 0#32
  let c11_289 : Index := 11#32
  let c64_290 : Index := 64#32
  ![v523.toNat, 0, 11, 64]
def k0_off36 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v528 : Index := Scalar.indexCast v8
  let c0_291 : Index := 0#32
  let c11_292 : Index := 11#32
  let c65_293 : Index := 65#32
  ![v528.toNat, 0, 11, 65]
def k0_off37 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v555 : Index := Scalar.indexCast v8
  let c0_307 : Index := 0#32
  let c12 : Index := 12#32
  let c0_308 : Index := 0#32
  ![v555.toNat, 0, 12, 0]
def k0_off38 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v560 : Index := Scalar.indexCast v8
  let c0_309 : Index := 0#32
  let c12_310 : Index := 12#32
  let c64_311 : Index := 64#32
  ![v560.toNat, 0, 12, 64]
def k0_off39 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v565 : Index := Scalar.indexCast v8
  let c0_312 : Index := 0#32
  let c12_313 : Index := 12#32
  let c65_314 : Index := 65#32
  ![v565.toNat, 0, 12, 65]
def k0_off40 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v592 : Index := Scalar.indexCast v8
  let c0_328 : Index := 0#32
  let c13 : Index := 13#32
  let c0_329 : Index := 0#32
  ![v592.toNat, 0, 13, 0]
def k0_off41 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v597 : Index := Scalar.indexCast v8
  let c0_330 : Index := 0#32
  let c13_331 : Index := 13#32
  let c64_332 : Index := 64#32
  ![v597.toNat, 0, 13, 64]
def k0_off42 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v602 : Index := Scalar.indexCast v8
  let c0_333 : Index := 0#32
  let c13_334 : Index := 13#32
  let c65_335 : Index := 65#32
  ![v602.toNat, 0, 13, 65]
def k0_off43 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v629 : Index := Scalar.indexCast v8
  let c0_349 : Index := 0#32
  let c14 : Index := 14#32
  let c0_350 : Index := 0#32
  ![v629.toNat, 0, 14, 0]
def k0_off44 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v634 : Index := Scalar.indexCast v8
  let c0_351 : Index := 0#32
  let c14_352 : Index := 14#32
  let c64_353 : Index := 64#32
  ![v634.toNat, 0, 14, 64]
def k0_off45 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v639 : Index := Scalar.indexCast v8
  let c0_354 : Index := 0#32
  let c14_355 : Index := 14#32
  let c65_356 : Index := 65#32
  ![v639.toNat, 0, 14, 65]
def k0_off46 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v666 : Index := Scalar.indexCast v8
  let c0_370 : Index := 0#32
  let c15 : Index := 15#32
  let c0_371 : Index := 0#32
  ![v666.toNat, 0, 15, 0]
def k0_off47 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v671 : Index := Scalar.indexCast v8
  let c0_372 : Index := 0#32
  let c15_373 : Index := 15#32
  let c64_374 : Index := 64#32
  ![v671.toNat, 0, 15, 64]
def k0_off48 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v676 : Index := Scalar.indexCast v8
  let c0_375 : Index := 0#32
  let c15_376 : Index := 15#32
  let c65_377 : Index := 65#32
  ![v676.toNat, 0, 15, 65]
def k0_off49 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![v8.toNat]
def k0_off50 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_390 : BitVec 32 := 0#32
  let c0_i32_391 : BitVec 32 := 0#32
  let c0_i32_392 : BitVec 32 := 0#32
  ![v8.toNat, 0, 0, 0]
def k0_dev4 (d0 : Dev nD) : Nat :=
  let c0_i32_387 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_386 : BitVec 32 := 8#32
  let v691 : BitVec 32 := Scalar.muli v2 c8_i32_386
  let v692 : BitVec 32 := Scalar.addi c0_i32_387 v691
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_388 : BitVec 32 := 4#32
  let v693 : BitVec 32 := Scalar.muli v5 c4_i32_388
  let v694 : BitVec 32 := Scalar.addi v692 v693
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_378 : BitVec 32 := 1#32
  let v680 : BitVec 32 := Scalar.addi v8 c1_i32_378
  let c4_i32_379 : BitVec 32 := 4#32
  let c0_i32_380 : BitVec 32 := 0#32
  let v681 : BitVec 1 := Scalar.cmpi .eq c4_i32_379 c0_i32_380
  let c1_i32_381 : BitVec 32 := 1#32
  let v682 : BitVec 32 := Scalar.select v681 c1_i32_381 c4_i32_379
  let v683 : BitVec 32 := Scalar.remsi v680 v682
  let c0_i32_383 : BitVec 32 := 0#32
  let v685 : BitVec 1 := Scalar.cmpi .slt v683 c0_i32_383
  let c0_i32_384 : BitVec 32 := 0#32
  let v686 : BitVec 1 := Scalar.cmpi .slt v682 c0_i32_384
  let v687 : BitVec 1 := Scalar.xori v685 v686
  let c0_i32_382 : BitVec 32 := 0#32
  let v684 : BitVec 1 := Scalar.cmpi .ne v683 c0_i32_382
  let v688 : BitVec 1 := Scalar.andi v687 v684
  let v689 : BitVec 32 := Scalar.addi v683 v682
  let v690 : BitVec 32 := Scalar.select v688 v689 v683
  let c1_i32_389 : BitVec 32 := 1#32
  let v695 : BitVec 32 := Scalar.muli v690 c1_i32_389
  let v696 : BitVec 32 := Scalar.addi v694 v695
  v696.toNat
def k0_dev5 (d0 : Dev nD) : Nat :=
  let c0_i32_405 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_404 : BitVec 32 := 8#32
  let v716 : BitVec 32 := Scalar.muli v2 c8_i32_404
  let v717 : BitVec 32 := Scalar.addi c0_i32_405 v716
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_406 : BitVec 32 := 4#32
  let v718 : BitVec 32 := Scalar.muli v5 c4_i32_406
  let v719 : BitVec 32 := Scalar.addi v717 v718
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_396 : BitVec 32 := 2#32
  let v705 : BitVec 32 := Scalar.addi v8 c2_i32_396
  let c4_i32_397 : BitVec 32 := 4#32
  let c0_i32_398 : BitVec 32 := 0#32
  let v706 : BitVec 1 := Scalar.cmpi .eq c4_i32_397 c0_i32_398
  let c1_i32_399 : BitVec 32 := 1#32
  let v707 : BitVec 32 := Scalar.select v706 c1_i32_399 c4_i32_397
  let v708 : BitVec 32 := Scalar.remsi v705 v707
  let c0_i32_401 : BitVec 32 := 0#32
  let v710 : BitVec 1 := Scalar.cmpi .slt v708 c0_i32_401
  let c0_i32_402 : BitVec 32 := 0#32
  let v711 : BitVec 1 := Scalar.cmpi .slt v707 c0_i32_402
  let v712 : BitVec 1 := Scalar.xori v710 v711
  let c0_i32_400 : BitVec 32 := 0#32
  let v709 : BitVec 1 := Scalar.cmpi .ne v708 c0_i32_400
  let v713 : BitVec 1 := Scalar.andi v712 v709
  let v714 : BitVec 32 := Scalar.addi v708 v707
  let v715 : BitVec 32 := Scalar.select v713 v714 v708
  let c1_i32_407 : BitVec 32 := 1#32
  let v720 : BitVec 32 := Scalar.muli v715 c1_i32_407
  let v721 : BitVec 32 := Scalar.addi v719 v720
  v721.toNat
def k0_dev6 (d0 : Dev nD) : Nat :=
  let c0_i32_423 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_422 : BitVec 32 := 8#32
  let v741 : BitVec 32 := Scalar.muli v2 c8_i32_422
  let v742 : BitVec 32 := Scalar.addi c0_i32_423 v741
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_424 : BitVec 32 := 4#32
  let v743 : BitVec 32 := Scalar.muli v5 c4_i32_424
  let v744 : BitVec 32 := Scalar.addi v742 v743
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_414 : BitVec 32 := 3#32
  let v730 : BitVec 32 := Scalar.addi v8 c3_i32_414
  let c4_i32_415 : BitVec 32 := 4#32
  let c0_i32_416 : BitVec 32 := 0#32
  let v731 : BitVec 1 := Scalar.cmpi .eq c4_i32_415 c0_i32_416
  let c1_i32_417 : BitVec 32 := 1#32
  let v732 : BitVec 32 := Scalar.select v731 c1_i32_417 c4_i32_415
  let v733 : BitVec 32 := Scalar.remsi v730 v732
  let c0_i32_419 : BitVec 32 := 0#32
  let v735 : BitVec 1 := Scalar.cmpi .slt v733 c0_i32_419
  let c0_i32_420 : BitVec 32 := 0#32
  let v736 : BitVec 1 := Scalar.cmpi .slt v732 c0_i32_420
  let v737 : BitVec 1 := Scalar.xori v735 v736
  let c0_i32_418 : BitVec 32 := 0#32
  let v734 : BitVec 1 := Scalar.cmpi .ne v733 c0_i32_418
  let v738 : BitVec 1 := Scalar.andi v737 v734
  let v739 : BitVec 32 := Scalar.addi v733 v732
  let v740 : BitVec 32 := Scalar.select v738 v739 v733
  let c1_i32_425 : BitVec 32 := 1#32
  let v745 : BitVec 32 := Scalar.muli v740 c1_i32_425
  let v746 : BitVec 32 := Scalar.addi v744 v745
  v746.toNat
def k0_off51 (d0 : Dev nD) (c1_i32_432 : BitVec 32) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v755 : BitVec 32 := Scalar.addi v8 c1_i32_432
  let c4_i32_433 : BitVec 32 := 4#32
  let c0_i32_434 : BitVec 32 := 0#32
  let v756 : BitVec 1 := Scalar.cmpi .eq c4_i32_433 c0_i32_434
  let c1_i32_435 : BitVec 32 := 1#32
  let v757 : BitVec 32 := Scalar.select v756 c1_i32_435 c4_i32_433
  let v758 : BitVec 32 := Scalar.remsi v755 v757
  let c0_i32_437 : BitVec 32 := 0#32
  let v760 : BitVec 1 := Scalar.cmpi .slt v758 c0_i32_437
  let c0_i32_438 : BitVec 32 := 0#32
  let v761 : BitVec 1 := Scalar.cmpi .slt v757 c0_i32_438
  let v762 : BitVec 1 := Scalar.xori v760 v761
  let c0_i32_436 : BitVec 32 := 0#32
  let v759 : BitVec 1 := Scalar.cmpi .ne v758 c0_i32_436
  let v763 : BitVec 1 := Scalar.andi v762 v759
  let v764 : BitVec 32 := Scalar.addi v758 v757
  let v765 : BitVec 32 := Scalar.select v763 v764 v758
  ![v765.toNat]
def k0_off52 (d0 : Dev nD) (c1_i32_432 : BitVec 32) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v755 : BitVec 32 := Scalar.addi v8 c1_i32_432
  let c4_i32_433 : BitVec 32 := 4#32
  let c0_i32_434 : BitVec 32 := 0#32
  let v756 : BitVec 1 := Scalar.cmpi .eq c4_i32_433 c0_i32_434
  let c1_i32_435 : BitVec 32 := 1#32
  let v757 : BitVec 32 := Scalar.select v756 c1_i32_435 c4_i32_433
  let v758 : BitVec 32 := Scalar.remsi v755 v757
  let c0_i32_437 : BitVec 32 := 0#32
  let v760 : BitVec 1 := Scalar.cmpi .slt v758 c0_i32_437
  let c0_i32_438 : BitVec 32 := 0#32
  let v761 : BitVec 1 := Scalar.cmpi .slt v757 c0_i32_438
  let v762 : BitVec 1 := Scalar.xori v760 v761
  let c0_i32_436 : BitVec 32 := 0#32
  let v759 : BitVec 1 := Scalar.cmpi .ne v758 c0_i32_436
  let v763 : BitVec 1 := Scalar.andi v762 v759
  let v764 : BitVec 32 := Scalar.addi v758 v757
  let v765 : BitVec 32 := Scalar.select v763 v764 v758
  let c0_i32_444 : BitVec 32 := 0#32
  let c0_i32_445 : BitVec 32 := 0#32
  let c0_i32_446 : BitVec 32 := 0#32
  ![v765.toNat, 0, 0, 0]
abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16x1x16x64 : Shape := ⟨4, ![16, 1, 16, 64]⟩
abbrev S512x16x16x64 : Shape := ⟨4, ![512, 16, 16, 64]⟩
abbrev S16x128 : Shape := ⟨2, ![16, 128]⟩
abbrev S16 : Shape := ⟨1, ![16]⟩
abbrev S_ : Shape := ⟨0, ![]⟩
abbrev S16x128x1 : Shape := ⟨3, ![16, 128, 1]⟩
abbrev S16x128x16x16x64 : Shape := ⟨5, ![16, 128, 16, 16, 64]⟩
abbrev S16x2048x16x64 : Shape := ⟨4, ![16, 2048, 16, 64]⟩
abbrev S16x16x1x2048 : Shape := ⟨4, ![16, 16, 1, 2048]⟩
abbrev S2048 : Shape := ⟨1, ![2048]⟩
abbrev S16x1 : Shape := ⟨2, ![16, 1]⟩
abbrev S1x2048 : Shape := ⟨2, ![1, 2048]⟩
abbrev S16x2048 : Shape := ⟨2, ![16, 2048]⟩
abbrev S16x1x1x2048 : Shape := ⟨4, ![16, 1, 1, 2048]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 72
  | .vmem => 0
  | .smem => 0
  | _ => 0

abbrev bufTy : (tb : Table) → Fin (tcTables nBuf tb) → BufTy
  | .hbm, ⟨0, _⟩ => ⟨S16x1x16x64, .f32⟩
  | .hbm, ⟨1, _⟩ => ⟨S512x16x16x64, .f32⟩
  | .hbm, ⟨2, _⟩ => ⟨S512x16x16x64, .f32⟩
  | .hbm, ⟨3, _⟩ => ⟨S16x128, .i32⟩
  | .hbm, ⟨4, _⟩ => ⟨S16, .i32⟩
  | .hbm, ⟨5, _⟩ => ⟨S_, .i32⟩
  | .hbm, ⟨6, _⟩ => ⟨S16x128, .i32⟩
  | .hbm, ⟨7, _⟩ => ⟨S16x128, .i1⟩
  | .hbm, ⟨8, _⟩ => ⟨S_, .i32⟩
  | .hbm, ⟨9, _⟩ => ⟨S16x128, .i32⟩
  | .hbm, ⟨10, _⟩ => ⟨S16x128, .i32⟩
  | .hbm, ⟨11, _⟩ => ⟨S16x128, .i32⟩
  | .hbm, ⟨12, _⟩ => ⟨S16x128x1, .i32⟩
  | .hbm, ⟨13, _⟩ => ⟨S16x128x16x16x64, .f32⟩
  | .hbm, ⟨14, _⟩ => ⟨S16x2048x16x64, .f32⟩
  | .hbm, ⟨15, _⟩ => ⟨S_, .i32⟩
  | .hbm, ⟨16, _⟩ => ⟨S16x128, .i32⟩
  | .hbm, ⟨17, _⟩ => ⟨S16x128, .i1⟩
  | .hbm, ⟨18, _⟩ => ⟨S_, .i32⟩
  | .hbm, ⟨19, _⟩ => ⟨S16x128, .i32⟩
  | .hbm, ⟨20, _⟩ => ⟨S16x128, .i32⟩
  | .hbm, ⟨21, _⟩ => ⟨S16x128, .i32⟩
  | .hbm, ⟨22, _⟩ => ⟨S16x128x1, .i32⟩
  | .hbm, ⟨23, _⟩ => ⟨S16x128x16x16x64, .f32⟩
  | .hbm, ⟨24, _⟩ => ⟨S16x2048x16x64, .f32⟩
  | .hbm, ⟨25, _⟩ => ⟨S16x16x1x2048, .f32⟩
  | .hbm, ⟨26, _⟩ => ⟨S_, .f32⟩
  | .hbm, ⟨27, _⟩ => ⟨S16x16x1x2048, .f32⟩
  | .hbm, ⟨28, _⟩ => ⟨S16x16x1x2048, .f32⟩
  | .hbm, ⟨29, _⟩ => ⟨S2048, .i32⟩
  | .hbm, ⟨30, _⟩ => ⟨S_, .i32⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S2048, .i32⟩
  | .hbm, ⟨39, _⟩ => ⟨S2048, .i32⟩
  | .hbm, ⟨40, _⟩ => ⟨S_, .i32⟩
  | .hbm, ⟨41, _⟩ => ⟨S2048, .i32⟩
  | .hbm, ⟨42, _⟩ => ⟨S2048, .i1⟩
  | .hbm, ⟨43, _⟩ => ⟨S2048, .i1⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S16x1, .i32⟩
  | .hbm, ⟨49, _⟩ => ⟨S1x2048, .i32⟩
  | .hbm, ⟨50, _⟩ => ⟨S16x2048, .i32⟩
  | .hbm, ⟨51, _⟩ => ⟨S16x2048, .i32⟩
  | .hbm, ⟨52, _⟩ => ⟨S16x2048, .i1⟩
  | .hbm, ⟨53, _⟩ => ⟨S16x1x1x2048, .i1⟩
  | .hbm, ⟨54, _⟩ => ⟨S_, .f32⟩
  | .hbm, ⟨55, _⟩ => ⟨S_, .f32⟩
  | .hbm, ⟨56, _⟩ => ⟨S16x16x1x2048, .i1⟩
  | .hbm, ⟨57, _⟩ => ⟨S16x16x1x2048, .f32⟩
  | .hbm, ⟨58, _⟩ => ⟨S16x16x1x2048, .f32⟩
  | .hbm, ⟨59, _⟩ => ⟨S_, .f32⟩
  | .hbm, ⟨60, _⟩ => ⟨S16x16x1, .f32⟩
  | .hbm, ⟨61, _⟩ => ⟨S16x16x1x1, .f32⟩
  | .hbm, ⟨62, _⟩ => ⟨S16x16x1x2048, .f32⟩
  | .hbm, ⟨63, _⟩ => ⟨S16x16x1x2048, .f32⟩
  | .hbm, ⟨64, _⟩ => ⟨S16x16x1x2048, .f32⟩
  | .hbm, ⟨65, _⟩ => ⟨S_, .f32⟩
  | .hbm, ⟨66, _⟩ => ⟨S16x16x1, .f32⟩
  | .hbm, ⟨67, _⟩ => ⟨S16x16x1x1, .f32⟩
  | .hbm, ⟨68, _⟩ => ⟨S16x16x1x2048, .f32⟩
  | .hbm, ⟨69, _⟩ => ⟨S16x16x1x2048, .f32⟩
  | .hbm, ⟨70, _⟩ => ⟨S16x16x64x1, .f32⟩
  | .hbm, ⟨71, _⟩ => ⟨S16x1x16x64, .f32⟩
  | _, _ => ⟨S16x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_4 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v27 : Ref sig .tc := ⟨.hbm, 58, rfl⟩
abbrev main_cst_5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_6 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩

abbrev nD : Nat := 1
abbrev τ : Topo := Topo.v7x

variable {F : FTy → Type} [FloatOps F]
-- ==== Proof.KernelIdeal.Norm.lean ====
/- The kernel body of one device, regrouped: the barrier, one head after another in a loop, the three sends, the three
   receives, the combination, the three send waits. The printed body is cut in parts at every sixtieth statement; this
   form is cut at the heads, so that the sixteen heads are proved by one induction. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions

@[expose] public section

noncomputable section

namespace Cert.KernelIdeal.Paged

open Cert.KernelIdeal Cert.KernelIdeal.Gen
open Idealize.ShloMosaic Idealize.ShloMosaic.TcCoe
open Idealize.SL Idealize.SL.Sem

variable {F : FTy → Type} [FloatOps F]

/-! ## What a device computes for one head -/

/-- Device `c`'s place along `z`, as the word the body computes from its device number. -/
def zWord (c : Dev nD) : BitVec 32 := Scalar.remsi (Scalar.divsi (Dev.word c) 1#32) 4#32

/-- How many live slots of each query's table name each row of the device's own pages. -/
def weight (c : Dev nD) (lens : Vec F S16x1 .i32) (bt : Vec F S16x128 .i32) : FVec F S16x2048 .f32 :=
  k0_pay3 (k0_pay1 (zWord c)) (iota .tc S16x128x1 32 [1] iota_S16x128x1_d1_w32) (k0_pay2 lens) bt

/-- Which rows are named at all. -/
def named (c : Dev nD) (lens : Vec F S16x1 .i32) (bt : Vec F S16x128 .i32) : IVec S16x2048 1 :=
  k0_pay4 (k0_pay1 (zWord c)) (iota .tc S16x128x1 32 [1] iota_S16x128x1_d1_w32) (k0_pay2 lens) bt

/-- One head's largest score over the named rows. -/
def headM (msk : IVec S16x2048 1) (q : Vec F S16x64 .f32) (k : Vec F S2048x64 .f32) : FVec F S1x16x1x1 .f32 :=
  k0_pay18 (k0_pay15 msk q k)

/-- One head's weighted sum of exponentials. -/
def headL (W : FVec F S16x2048 .f32) (msk : IVec S16x2048 1) (q : Vec F S16x64 .f32) (k : Vec F S2048x64 .f32) : FVec F S1x16x1x1 .f32 :=
  k0_pay19 (k0_pay16 W msk q k)

/-- One head's weighted sum of values. -/
def headU (W : FVec F S16x2048 .f32) (msk : IVec S16x2048 1) (q : Vec F S16x64 .f32) (k v : Vec F S2048x64 .f32) : FVec F S1x16x1x64 .f32 :=
  k0_pay17 (k0_pay13 v) (k0_pay16 W msk q k)

/-! ## The memrefs and semaphores -/

abbrev qM : Memref sig .tc .vmem S16x1024 .f32 := Memref.whole cc0_stg0_0
abbrev kM : Memref sig .tc .vmem S2048x1024 .f32 := Memref.whole cc0_stg1_0
abbrev vM : Memref sig .tc .vmem S2048x1024 .f32 := Memref.whole cc0_stg2_0
abbrev btM : Memref sig .tc .vmem S16x128 .i32 := Memref.whole cc0_stg3_0
abbrev lenM : Memref sig .tc .vmem S16x1 .i32 := Memref.whole cc0_stg4_0
abbrev oM : Memref sig .tc .vmem S16x16x64 .f32 := Memref.whole cc0_stg5_0
abbrev commM : Memref sig .tc .vmem S4x16x16x66 .f32 := Memref.whole cc0_scratch0

/-- The barrier's semaphore. -/
abbrev barS : Sem sig := (SemArray.scalar (sig.barrier 0 rfl) : Sems sig S_).sem

/-- The slot of the gather buffer at an offset. -/
abbrev slotAt (off : Fin 4 → ℕ) (hoff : ∀ a, off a + S1x16x16x66.size a ≤ S4x16x16x66.size a) : Memref sig .tc .vmem S16x16x66 .f32 :=
  (commM.slice (Rect.unit (s := S4x16x16x66) off S1x16x16x66.size hoff) (fun _ => rfl)).squeeze S16x16x66 squeezes_S1x16x16x66_S16x16x66

/-- The send semaphore at an offset, and the receive semaphore at an offset. -/
abbrev sendAt (off : Fin 1 → ℕ) (hoff : ∀ a, off a + S1.size a ≤ S3.size a) : DmaSem sig :=
  ((cc0_scratch1.slice (Rect.unit (s := S3) off S1.size hoff)).squeeze S_ squeezes_S1_S_).sem
abbrev recvAt (off : Fin 1 → ℕ) (hoff : ∀ a, off a + S1.size a ≤ S4.size a) : DmaSem sig :=
  ((cc0_scratch2.slice (Rect.unit (s := S4) off S1.size hoff)).squeeze S_ squeezes_S1_S_).sem

/-! ## The tables of printed offsets -/

/-- Where head `h`'s part U goes in the gather buffer, as printed. -/
def offU (c : Dev nD) (h : Fin 16) : Fin 4 → ℕ := (![k0_off1 c, k0_off4 c, k0_off7 c, k0_off10 c, k0_off13 c, k0_off16 c, k0_off19 c, k0_off22 c, k0_off25 c, k0_off28 c, k0_off31 c, k0_off34 c, k0_off37 c, k0_off40 c, k0_off43 c, k0_off46 c] : Fin 16 → Fin 4 → ℕ) h
theorem offU_eq (c : Dev nD) (h : Fin 16) : offU c h = ![c.val % 4, 0, h.val, 0] := by
  revert h; revert c; decide +kernel
theorem offU_inb (c : Dev nD) (h : Fin 16) : ∀ a, offU c h a + S1x16x1x64.size a ≤ S4x16x16x66.size a := by
  revert h; revert c; decide +kernel

/-- Where head `h`'s part M goes in the gather buffer, as printed. -/
def offM (c : Dev nD) (h : Fin 16) : Fin 4 → ℕ := (![k0_off2 c, k0_off5 c, k0_off8 c, k0_off11 c, k0_off14 c, k0_off17 c, k0_off20 c, k0_off23 c, k0_off26 c, k0_off29 c, k0_off32 c, k0_off35 c, k0_off38 c, k0_off41 c, k0_off44 c, k0_off47 c] : Fin 16 → Fin 4 → ℕ) h
theorem offM_eq (c : Dev nD) (h : Fin 16) : offM c h = ![c.val % 4, 0, h.val, 64] := by
  revert h; revert c; decide +kernel
theorem offM_inb (c : Dev nD) (h : Fin 16) : ∀ a, offM c h a + S1x16x1x1.size a ≤ S4x16x16x66.size a := by
  revert h; revert c; decide +kernel

/-- Where head `h`'s part L goes in the gather buffer, as printed. -/
def offL (c : Dev nD) (h : Fin 16) : Fin 4 → ℕ := (![k0_off3 c, k0_off6 c, k0_off9 c, k0_off12 c, k0_off15 c, k0_off18 c, k0_off21 c, k0_off24 c, k0_off27 c, k0_off30 c, k0_off33 c, k0_off36 c, k0_off39 c, k0_off42 c, k0_off45 c, k0_off48 c] : Fin 16 → Fin 4 → ℕ) h
theorem offL_eq (c : Dev nD) (h : Fin 16) : offL c h = ![c.val % 4, 0, h.val, 65] := by
  revert h; revert c; decide +kernel
theorem offL_inb (c : Dev nD) (h : Fin 16) : ∀ a, offL c h a + S1x16x1x1.size a ≤ S4x16x16x66.size a := by
  revert h; revert c; decide +kernel

/-- Head `h`'s columns of the staged queries, keys and values. -/
theorem colQ_inb (h : Fin 16) : ∀ a, (![0, 64 * h.val] : Fin 2 → ℕ) a + S16x64.size a ≤ S16x1024.size a := by revert h; decide +kernel
theorem colK_inb (h : Fin 16) : ∀ a, (![0, 64 * h.val] : Fin 2 → ℕ) a + S2048x64.size a ≤ S2048x1024.size a := by revert h; decide +kernel

/-! ## The regrouped body -/

/-- One head: its columns loaded, its three parts stored in the device's own slot. -/
def headProg (c : Dev nD) (W : FVec F S16x2048 .f32) (msk : IVec S16x2048 1) (h : Fin 16) : Prog (TpuEff nD τ sig (Elt F) Λ₀ .tc) PUnit := do
  let q : Vec F S16x64 .f32 ← Prog.lift (.load qM (Rect.unit (s := S16x1024) ![0, 64 * h.val] S16x64.size (colQ_inb h)).toLoadRect (View.loadsAt_vmem h_S16x64))
  let k : Vec F S2048x64 .f32 ← Prog.lift (.load kM (Rect.unit (s := S2048x1024) ![0, 64 * h.val] S2048x64.size (colK_inb h)).toLoadRect (View.loadsAt_vmem h_S2048x64))
  let v : Vec F S2048x64 .f32 ← Prog.lift (.load vM (Rect.unit (s := S2048x1024) ![0, 64 * h.val] S2048x64.size (colK_inb h)).toLoadRect (View.loadsAt_vmem h_S2048x64))
  let _ : Vec F S1x16x1x64 .f32 ← Prog.lift (.load commM (Rect.unit (s := S4x16x16x66) (offU c h) S1x16x1x64.size (offU_inb c h)).toLoadRect (View.loadsAt_vmem h_S1x16x1x64))
  Prog.lift (.store commM (Rect.unit (s := S4x16x16x66) (offU c h) S1x16x1x64.size (offU_inb c h)) (headU W msk q k v) Finset.univ (View.stores_vmem_bits_univ h_S1x16x1x64 rfl) (.inl rfl))
  let _ : Vec F S1x16x1x1 .f32 ← Prog.lift (.load commM (Rect.unit (s := S4x16x16x66) (offM c h) S1x16x1x1.size (offM_inb c h)).toLoadRect (View.loadsAt_vmem h_S1x16x1x1))
  Prog.lift (.store commM (Rect.unit (s := S4x16x16x66) (offM c h) S1x16x1x1.size (offM_inb c h)) (headM msk q k) Finset.univ (View.stores_vmem_bits_univ h_S1x16x1x1 rfl) (.inl rfl))
  let _ : Vec F S1x16x1x1 .f32 ← Prog.lift (.load commM (Rect.unit (s := S4x16x16x66) (offL c h) S1x16x1x1.size (offL_inb c h)).toLoadRect (View.loadsAt_vmem h_S1x16x1x1))
  Prog.lift (.store commM (Rect.unit (s := S4x16x16x66) (offL c h) S1x16x1x1.size (offL_inb c h)) (headL W msk q k) Finset.univ (View.stores_vmem_bits_univ h_S1x16x1x1 rfl) (.inl rfl))

/-- The heads of a list, one after another, and then `k`. -/
def headsProg (c : Dev nD) (W : FVec F S16x2048 .f32) (msk : IVec S16x2048 1) (k : Prog (TpuEff nD τ sig (Elt F) Λ₀ .tc) PUnit) :
    List (Fin 16) → Prog (TpuEff nD τ sig (Elt F) Λ₀ .tc) PUnit
  | [] => k
  | h :: hs => headProg c W msk h >>= fun _ => headsProg c W msk k hs

/-- The sixteen heads in the body's order. -/
abbrev allHeads : List (Fin 16) := [0, 1, 2, 3, 4, 5, 6, 7, 8, 9, 10, 11, 12, 13, 14, 15]

/-- One send: the device's own slot to the same slot of device `n`. -/
def sendProg (c n : Dev nD) (off : Fin 1 → ℕ) (hoff : ∀ a, off a + S1.size a ≤ S3.size a) : Prog (TpuEff nD τ sig (Elt F) Λ₀ .tc) PUnit :=
  Prog.lift (.enqueueDma (slotAt (k0_off50 c) (k0_off50_inb c))
    (.remote (Dev.tc n) (slotAt (k0_off50 c) (k0_off50_inb c)) (.dma (sendAt off hoff)))
    (.dma (recvAt (k0_off49 c) (k0_off49_inb c)))
    ((View.wordExact_bits rfl).reshape _ _) ((View.wordExact_bits rfl).reshape _ _) ⟨⟨rfl, Or.inl rfl⟩, trivial⟩)

/-- One wait on a transfer of a slot. -/
def waitProg (sem : DmaSem sig) (M : Memref sig .tc .vmem S16x16x66 .f32) (hM : M.view.WordExact) : Prog (TpuEff nD τ sig (Elt F) Λ₀ .tc) PUnit :=
  Prog.lift (.waitDma2 sem M M hM hM)

theorem slot_exact (off : Fin 4 → ℕ) (hoff : ∀ a, off a + S1x16x16x66.size a ≤ S4x16x16x66.size a) : (slotAt off hoff).view.WordExact :=
  (View.wordExact_bits rfl).reshape _ _

/-- After the heads: the sends, the receives, the combination and the send waits. -/
def tailProg (c : Dev nD) : Prog (TpuEff nD τ sig (Elt F) Λ₀ .tc) PUnit := do
  sendProg c ⟨k0_dev4 c, k0_dev4_lt c⟩ ![0] inb_S3_S1_0
  sendProg c ⟨k0_dev5 c, k0_dev5_lt c⟩ ![1] inb_S3_S1_1
  sendProg c ⟨k0_dev6 c, k0_dev6_lt c⟩ ![2] inb_S3_S1_2
  waitProg (recvAt (k0_off51 c 1#32) (k0_off51_inb c 0)) (slotAt (k0_off52 c 1#32) (k0_off52_inb c 0)) (slot_exact _ _)
  waitProg (recvAt (k0_off51 c 2#32) (k0_off51_inb c 1)) (slotAt (k0_off52 c 2#32) (k0_off52_inb c 1)) (slot_exact _ _)
  waitProg (recvAt (k0_off51 c 3#32) (k0_off51_inb c 2)) (slotAt (k0_off52 c 3#32) (k0_off52_inb c 2)) (slot_exact _ _)
  let u : Vec F S4x16x16x64 .f32 ← Prog.lift (.load commM (Rect.unit (s := S4x16x16x66) ![0, 0, 0, 0] S4x16x16x64.size inb_S4x16x16x66_S4x16x16x64_0_0_0_0).toLoadRect (View.loadsAt_vmem h_S4x16x16x64))
  let mx : Vec F S4x16x16x1 .f32 ← Prog.lift (.load commM (Rect.unit (s := S4x16x16x66) ![0, 0, 0, 64] S4x16x16x1.size inb_S4x16x16x66_S4x16x16x1_0_0_0_64).toLoadRect (View.loadsAt_vmem h_S4x16x16x1))
  let l : Vec F S4x16x16x1 .f32 ← Prog.lift (.load commM (Rect.unit (s := S4x16x16x66) ![0, 0, 0, 65] S4x16x16x1.size inb_S4x16x16x66_S4x16x16x1_0_0_0_65).toLoadRect (View.loadsAt_vmem h_S4x16x16x1))
  let _ : Vec F S16x16x64 .f32 ← Prog.lift (.load oM (Rect.unit (s := S16x16x64) ![0, 0, 0] S16x16x64.size inb_S16x16x64_S16x16x64_0_0_0).toLoadRect (View.loadsAt_vmem h_S16x16x64))
  Prog.lift (.store oM (Rect.unit (s := S16x16x64) ![0, 0, 0] S16x16x64.size inb_S16x16x64_S16x16x64_0_0_0) (k0_pay127 u mx l) Finset.univ (View.stores_vmem_bits_univ h_S16x16x64 rfl) (.inl rfl))
  waitProg (sendAt ![0] inb_S3_S1_0) (slotAt (k0_off50 c) (k0_off50_inb c)) (slot_exact _ _)
  waitProg (sendAt ![1] inb_S3_S1_1) (slotAt (k0_off50 c) (k0_off50_inb c)) (slot_exact _ _)
  waitProg (sendAt ![2] inb_S3_S1_2) (slotAt (k0_off50 c) (k0_off50_inb c)) (slot_exact _ _)
  pure ⟨⟩

/-- The whole body of a device. -/
def bodyProg : Prog (TpuEff nD τ sig (Elt F) Λ₀ .tc) PUnit := do
  let c : Dev nD ← Prog.lift .deviceId
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semWaitWord barS 3#32
  let lens : Vec F S16x1 .i32 ← Prog.lift (.load lenM (Rect.unit (s := S16x1) ![0, 0] S16x1.size inb_S16x1_S16x1_0_0).toLoadRect (View.loadsAt_vmem h_S16x1))
  let bt : Vec F S16x128 .i32 ← Prog.lift (.load btM (Rect.unit (s := S16x128) ![0, 0] S16x128.size inb_S16x128_S16x128_0_0).toLoadRect (View.loadsAt_vmem h_S16x128))
  headsProg c (weight c lens bt) (named c lens bt) (tailProg c) allHeads

set_option maxRecDepth 65536 in
/-- The printed body, at the buffers the launch calls it with, is the regrouped one: the same operations in the same order. -/
theorem body_eq : cc0__body (F := F) qM (Memref.isWhole_whole _) kM (Memref.isWhole_whole _) vM (Memref.isWhole_whole _) btM (Memref.isWhole_whole _)
    lenM (Memref.isWhole_whole _) oM (Memref.isWhole_whole _) commM (Memref.isWhole_whole _) cc0_scratch1 cc0_scratch2 = bodyProg := by
  chain_rfl

end Cert.KernelIdeal.Paged

end
-- ==== Proof.KernelIdeal.Contents.lean ====
/- What the gather buffer holds once every device of a group has sent its slot, as a function of the operands the devices
   have staged; where the slots and the heads' boxes lie in it; and that storing one head's three parts extends what is
   already there. -/
module

public import proofs.«01_k».proof.Proof.KernelIdeal.Norm
public import Idealize.ShloMosaic.Lib.ValueIdxCore

@[expose] public section

noncomputable section

namespace Cert.KernelIdeal.Paged

open Cert.KernelIdeal Cert.KernelIdeal.Gen
open Idealize.ShloMosaic Idealize.ShloMosaic.TcCoe
open Idealize.ShloMosaic.ValueIdx (ix4 eq_ix4)
open Idealize.SL Idealize.SL.Sem

variable {F : FTy → Type} [FloatOps F]

/-! ## The group of four devices along `z` -/

/-- A device's place along `z`. -/
def zOf (c : Dev nD) : Fin 4 := ⟨c.val % 4, Nat.mod_lt _ (by decide)⟩
/-- The device of `c`'s group at place `z`. -/
def peer (c : Dev nD) (z : Fin 4) : Dev nD := ⟨c.val / 4 * 4 + z.val, by have := c.isLt; have := z.isLt; simp only [nD] at *; omega⟩

theorem peer_self (c : Dev nD) : peer c (zOf c) = c := by revert c; decide +kernel
theorem zOf_peer (c : Dev nD) (z : Fin 4) : zOf (peer c z) = z := by revert z; revert c; decide +kernel
theorem peer_peer (c : Dev nD) (z z' : Fin 4) : peer (peer c z) z' = peer c z' := by revert z'; revert z; revert c; decide +kernel
theorem peer_inj (c : Dev nD) {z z' : Fin 4} (h : peer c z = peer c z') : z = z' := by rw [← zOf_peer c z, h, zOf_peer]

/-- The three other places, in the order of the body's loops. -/
def away (c : Dev nD) (k : Fin 3) : Fin 4 := ⟨(c.val + k.val + 1) % 4, Nat.mod_lt _ (by decide)⟩
theorem away_ne (c : Dev nD) (k : Fin 3) : away c k ≠ zOf c := by revert k; revert c; decide +kernel
theorem away_inj (c : Dev nD) {k k' : Fin 3} (h : away c k = away c k') : k = k' := by revert k'; revert k; revert c; decide +kernel
theorem others_eq (c : Dev nD) : Finset.univ.erase (zOf c) = {away c 0, away c 1, away c 2} := by revert c; decide +kernel

theorem dev1_eq (c : Dev nD) : (⟨k0_dev1 c, k0_dev1_lt c⟩ : Dev nD) = peer c (away c 0) := by revert c; decide +kernel
theorem dev2_eq (c : Dev nD) : (⟨k0_dev2 c, k0_dev2_lt c⟩ : Dev nD) = peer c (away c 1) := by revert c; decide +kernel
theorem dev3_eq (c : Dev nD) : (⟨k0_dev3 c, k0_dev3_lt c⟩ : Dev nD) = peer c (away c 2) := by revert c; decide +kernel
theorem dev4_eq (c : Dev nD) : (⟨k0_dev4 c, k0_dev4_lt c⟩ : Dev nD) = peer c (away c 0) := by revert c; decide +kernel
theorem dev5_eq (c : Dev nD) : (⟨k0_dev5 c, k0_dev5_lt c⟩ : Dev nD) = peer c (away c 1) := by revert c; decide +kernel
theorem dev6_eq (c : Dev nD) : (⟨k0_dev6 c, k0_dev6_lt c⟩ : Dev nD) = peer c (away c 2) := by revert c; decide +kernel

/-- The slot the body waits for at its `k`-th receive, and that slot's semaphore. -/
theorem off52_eq0 (c : Dev nD) : k0_off52 c 1#32 = ![(away c 0).val, 0, 0, 0] := by revert c; decide +kernel
theorem off52_eq1 (c : Dev nD) : k0_off52 c 2#32 = ![(away c 1).val, 0, 0, 0] := by revert c; decide +kernel
theorem off52_eq2 (c : Dev nD) : k0_off52 c 3#32 = ![(away c 2).val, 0, 0, 0] := by revert c; decide +kernel

/-! ## The contents -/

variable (F) in
/-- What a device has staged: its queries, its pages' keys and values, the page tables and the lengths. -/
structure Staged where
  q : Vec F S16x1024 .f32
  k : Vec F S2048x1024 .f32
  v : Vec F S2048x1024 .f32
  bt : Vec F S16x128 .i32
  lens : Vec F S16x1 .i32

/-- Head `h`'s columns. -/
def colQ (q : Vec F S16x1024 .f32) (h : Fin 16) : Vec F S16x64 .f32 :=
  qM.view.readAt (Elt F) (Rect.unit (s := S16x1024) ![0, 64 * h.val] S16x64.size (colQ_inb h)).toLoadRect q
def colK (k : Vec F S2048x1024 .f32) (h : Fin 16) : Vec F S2048x64 .f32 :=
  kM.view.readAt (Elt F) (Rect.unit (s := S2048x1024) ![0, 64 * h.val] S2048x64.size (colK_inb h)).toLoadRect k
def colV (k : Vec F S2048x1024 .f32) (h : Fin 16) : Vec F S2048x64 .f32 :=
  vM.view.readAt (Elt F) (Rect.unit (s := S2048x1024) ![0, 64 * h.val] S2048x64.size (colK_inb h)).toLoadRect k

/-- The whole lengths and tables, as the body loads them. -/
def ldLens (l : Vec F S16x1 .i32) : Vec F S16x1 .i32 :=
  lenM.view.readAt (Elt F) (Rect.unit (s := S16x1) ![0, 0] S16x1.size inb_S16x1_S16x1_0_0).toLoadRect l
def ldBt (b : Vec F S16x128 .i32) : Vec F S16x128 .i32 :=
  btM.view.readAt (Elt F) (Rect.unit (s := S16x128) ![0, 0] S16x128.size inb_S16x128_S16x128_0_0).toLoadRect b

variable (X : Dev nD → Staged F)

/-- Device `p`'s weights and names. -/
def wOf (p : Dev nD) : FVec F S16x2048 .f32 := weight p (ldLens (X p).lens) (ldBt (X p).bt)
def nOf (p : Dev nD) : IVec S16x2048 1 := named p (ldLens (X p).lens) (ldBt (X p).bt)

/-- Device `p`'s three parts of head `h`. -/
def partU (p : Dev nD) (h : Fin 16) : FVec F S1x16x1x64 .f32 :=
  headU (wOf X p) (nOf X p) (colQ (X p).q h) (colK (X p).k h) (colV (X p).v h)
def partM (p : Dev nD) (h : Fin 16) : FVec F S1x16x1x1 .f32 := headM (nOf X p) (colQ (X p).q h) (colK (X p).k h)
def partL (p : Dev nD) (h : Fin 16) : FVec F S1x16x1x1 .f32 := headL (wOf X p) (nOf X p) (colQ (X p).q h) (colK (X p).k h)

/-- Device `p`'s row of a slot: head `h`'s 64 weighted values, then its largest score, then its weighted sum. -/
def row (p : Dev nD) (b h : Fin 16) (j : Fin 66) : Elt F .f32 :=
  if hj : j.val < 64 then partU X p h (ix4 0 b 0 ⟨j.val, hj⟩)
  else if j.val = 64 then partM X p h (ix4 0 b 0 0) else partL X p h (ix4 0 b 0 0)

/-- The whole gather buffer of `c`'s group: slot `z` is the row block of the device at place `z`. -/
def gath (c : Dev nD) : S4x16x16x66.Idx → Elt F .f32 := fun i => row X (peer c (i 0)) (i 1) (i 2) (i 3)

theorem gath_peer (c : Dev nD) (z : Fin 4) : gath X (peer c z) = gath X c := by
  funext i; exact congrArg (fun p => row X p (i 1) (i 2) (i 3)) (peer_peer c z (i 0))

/-! ## Where the slots lie -/

/-- The elements of slot `z`. -/
def slotSet (z : Fin 4) : Finset S4x16x16x66.Idx := Finset.univ.filter fun i => (i 0).val = z.val

theorem mem_slotSet {z : Fin 4} {i : S4x16x16x66.Idx} : i ∈ slotSet z ↔ i 0 = z := by
  unfold slotSet; rw [Finset.mem_filter]; exact ⟨fun h => Fin.ext h.2, fun h => ⟨Finset.mem_univ _, congrArg Fin.val h⟩⟩

theorem slot_disjoint {z z' : Fin 4} (h : z ≠ z') : Disjoint (slotSet z) (slotSet z') :=
  Finset.disjoint_left.mpr fun i hi hi' => h (by rw [← mem_slotSet.mp hi, mem_slotSet.mp hi'])

theorem slots_cover : Finset.univ.biUnion slotSet = (Finset.univ : Finset S4x16x16x66.Idx) := by
  ext i; simp only [Finset.mem_biUnion, Finset.mem_univ, true_and, iff_true]; exact ⟨i 0, mem_slotSet.mpr rfl⟩

/-- A printed slot memref at place `z` lies on slot `z`. -/
theorem slotAt_set {off : Fin 4 → ℕ} (hoff : ∀ a, off a + S1x16x16x66.size a ≤ S4x16x16x66.size a) (z : Fin 4) (h : off = ![z.val, 0, 0, 0]) :
    (slotAt off hoff).view.set = slotSet z := by
  subst h
  rw [show (slotAt ![z.val, 0, 0, 0] hoff).view.set = (Rect.unit (s := S4x16x16x66) ![z.val, 0, 0, 0] S1x16x16x66.size hoff).set from
    (View.set_reshape (v := (commM.slice (Rect.unit (s := S4x16x16x66) ![z.val, 0, 0, 0] S1x16x16x66.size hoff) (fun _ => rfl)).view) _).trans
      (View.set_slice_whole _ _)]
  ext i
  rw [Rect.mem_set_unit, mem_slotSet]
  constructor
  · intro h; have := h 0; apply Fin.ext
    have h1 : z.val ≤ (i 0).val := this.1
    have h2 : (i 0).val < z.val + 1 := this.2
    omega
  · rintro rfl a
    have := (i a).isLt
    match a with
    | 0 => exact ⟨Nat.le_refl _, Nat.lt_succ_self _⟩
    | 1 => exact ⟨Nat.zero_le _, by simpa using (i 1).isLt⟩
    | 2 => exact ⟨Nat.zero_le _, by simpa using (i 2).isLt⟩
    | 3 => exact ⟨Nat.zero_le _, by simpa using (i 3).isLt⟩

theorem off50_eq (c : Dev nD) : k0_off50 c = ![(zOf c).val, 0, 0, 0] := k0_off50_eq c

/-! ## A box stored in the gather buffer -/

section Box

variable {off size : Fin 4 → ℕ} (inb : ∀ a, off a + size a ≤ S4x16x16x66.size a)

/-- A store through a box, read at an element of the box. -/
theorem box_hit (f : S4x16x16x66.Idx → Elt F .f32) (w : (Rect.unit (s := S4x16x16x66) off size inb).shape.Idx → Elt F .f32)
    (i : S4x16x16x66.Idx) (x : (Rect.unit (s := S4x16x16x66) off size inb).shape.Idx) (hx : ∀ a, (i a).val = off a + (x a).val) :
    (commM.access (Rect.unit (s := S4x16x16x66) off size inb)).write (Elt F) f w Finset.univ i = w x := by
  have he : (commM.access (Rect.unit (s := S4x16x16x66) off size inb)).emb x = i := by
    funext a; apply Fin.ext
    rw [hx a]
    show off a + 1 * (x a).val = _
    rw [Nat.one_mul]
  rw [← he]
  exact View.write_emb_of_mem _ _ (Finset.mem_univ _)

/-- A store through a box, read off the box. -/
theorem box_miss (f : S4x16x16x66.Idx → Elt F .f32) (w : (Rect.unit (s := S4x16x16x66) off size inb).shape.Idx → Elt F .f32)
    (i : S4x16x16x66.Idx) (a : Fin 4) (ha : (i a).val < off a ∨ off a + size a ≤ (i a).val) :
    (commM.access (Rect.unit (s := S4x16x16x66) off size inb)).write (Elt F) f w Finset.univ i = f i := by
  refine View.write_of_not_mem _ _ _ ?_
  rw [View.setOn_univ, show (commM.access (Rect.unit (s := S4x16x16x66) off size inb)).set = (Rect.unit (s := S4x16x16x66) off size inb).set from
    View.set_slice_whole _ _, Rect.mem_set_unit]
  intro h; have := h a; omega

/-- A box at a place lies in its slot. -/
theorem box_sub (z : Fin 4) (h0 : off 0 = z.val) (h1 : size 0 = 1) :
    (commM.access (Rect.unit (s := S4x16x16x66) off size inb)).set ⊆ slotSet z := by
  rw [show (commM.access (Rect.unit (s := S4x16x16x66) off size inb)).set = (Rect.unit (s := S4x16x16x66) off size inb).set from
    View.set_slice_whole _ _]
  intro i hi
  have := (Rect.mem_set_unit.mp hi) 0
  rw [mem_slotSet]; apply Fin.ext; omega

end Box

/-- The slot of `c` holds the group's contents for the first `n` heads. -/
def Filled (c : Dev nD) (n : ℕ) (f : S4x16x16x66.Idx → Elt F .f32) : Prop :=
  ∀ i ∈ slotSet (zOf c), (i 2).val < n → f i = gath X c i

/-- Storing head `h`'s three parts. -/
def fill (c : Dev nD) (h : Fin 16) (f : S4x16x16x66.Idx → Elt F .f32) : S4x16x16x66.Idx → Elt F .f32 :=
  (commM.access (Rect.unit (s := S4x16x16x66) (offL c h) S1x16x1x1.size (offL_inb c h))).write (Elt F)
    ((commM.access (Rect.unit (s := S4x16x16x66) (offM c h) S1x16x1x1.size (offM_inb c h))).write (Elt F)
      ((commM.access (Rect.unit (s := S4x16x16x66) (offU c h) S1x16x1x64.size (offU_inb c h))).write (Elt F) f (partU X c h) Finset.univ)
      (partM X c h) Finset.univ)
    (partL X c h) Finset.univ

theorem filled_fill (c : Dev nD) (h : Fin 16) {f : S4x16x16x66.Idx → Elt F .f32} (hf : Filled X c h.val f) :
    Filled X c (h.val + 1) (fill X c h f) := by
  intro i hi hlt
  have h0 := mem_slotSet.mp hi
  have h0v : (i 0).val = c.val % 4 := by rw [h0]; rfl
  have eU := offU_eq c h; have eM := offM_eq c h; have eL := offL_eq c h
  have i1 : (i 1).val < 16 := (i 1).isLt
  have i3 : (i 3).val < 66 := (i 3).isLt
  unfold fill
  by_cases h2 : (i 2).val = h.val
  · have hg : gath X c i = row X c (i 1) h (i 3) := by
      unfold gath; rw [h0, peer_self, show i 2 = h from Fin.ext h2]
    rw [hg]; unfold row
    by_cases hj : (i 3).val < 64
    · rw [dif_pos hj, box_miss _ _ _ i 3 (by rw [eL]; exact .inl (Nat.lt_succ_of_lt hj)),
        box_miss _ _ _ i 3 (by rw [eM]; exact .inl hj)]
      refine box_hit _ _ _ i (ix4 0 (i 1) 0 ⟨(i 3).val, hj⟩) fun a => ?_
      refine Eq.trans ?_ (congrArg (· + _) (congrFun eU a).symm)
      match a with
      | 0 => exact h0v
      | 1 => exact (Nat.zero_add _).symm
      | 2 => exact h2
      | 3 => exact (Nat.zero_add _).symm
    · rw [dif_neg hj]
      by_cases hj' : (i 3).val = 64
      · rw [if_pos hj', box_miss _ _ _ i 3 (by rw [eL]; exact .inl (by show (i 3).val < 65; omega))]
        refine box_hit _ _ _ i (ix4 0 (i 1) 0 0) fun a => ?_
        refine Eq.trans ?_ (congrArg (· + _) (congrFun eM a).symm)
        match a with
        | 0 => exact h0v
        | 1 => exact (Nat.zero_add _).symm
        | 2 => exact h2
        | 3 => exact hj'
      · rw [if_neg hj']
        refine box_hit _ _ _ i (ix4 0 (i 1) 0 0) fun a => ?_
        refine Eq.trans ?_ (congrArg (· + _) (congrFun eL a).symm)
        match a with
        | 0 => exact h0v
        | 1 => exact (Nat.zero_add _).symm
        | 2 => exact h2
        | 3 => show (i 3).val = 65 + 0; omega
  · have hlt' : (i 2).val < h.val := by omega
    rw [box_miss _ _ _ i 2 (by rw [eL]; exact .inl hlt'), box_miss _ _ _ i 2 (by rw [eM]; exact .inl hlt'),
      box_miss _ _ _ i 2 (by rw [eU]; exact .inl hlt')]
    exact hf i hi hlt'

theorem filled_zero (c : Dev nD) (f : S4x16x16x66.Idx → Elt F .f32) : Filled X c 0 f := fun i _ h => absurd h (Nat.not_lt_zero _)
theorem filled_all (c : Dev nD) {f : S4x16x16x66.Idx → Elt F .f32} (hf : Filled X c 16 f) : ∀ i ∈ slotSet (zOf c), f i = gath X c i :=
  fun i hi => hf i hi (i 2).isLt

end Cert.KernelIdeal.Paged

end
-- ==== Proof.KernelIdeal.Heads.lean ====
/- The sixteen heads of the body: run one after another on a device, they leave the device's own slot of the gather buffer
   holding the group's contents. -/
module

public import proofs.«01_k».proof.Proof.KernelIdeal.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Paged

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The talk's copy of the rounds library: a duty is named by the payer's place in its group. -/
abbrev UB : Type := URounds (GSem nD τ sig) (Fin 4)
/-- The pipeline's resources and the talk's. -/
abbrev UU : Type := UR sig nD τ × UB

local notation "𝕄" => MT nD τ sig Unit (Elt F) ℕ UU ℕ

abbrev 𝒱₀ : Variants := Variants.none

variable (X : Dev nD → Staged F)

/-- A share of a whole staged buffer at given contents. -/
abbrev stg (c : Dev nD) (b : Ref sig .tc) (f : b.ty.Contents (Elt F)) : sProp 𝕄 := iprop((c : Thread nD τ).loc b ↦{fullShare} f)

/-- A share of slot `z` of device `c`'s gather buffer. -/
abbrev slotPts (q : PosShare TreeShare) (c : Dev nD) (z : Fin 4) (f : S4x16x16x66.Idx → Elt F .f32) : sProp 𝕄 :=
  iprop((c : Thread nD τ).loc cc0_scratch0 ↦[slotSet z]{q} f)

/-- The staged queries, keys and values. -/
def ins (c : Dev nD) : sProp 𝕄 := iprop(stg c cc0_stg0_0 (X c).q ∗ stg c cc0_stg1_0 (X c).k ∗ stg c cc0_stg2_0 (X c).v)

/-- The device's own slot, filled for the first `n` heads. -/
def filling (c : Dev nD) (n : ℕ) : sProp 𝕄 := iprop(∃ f, ⌜Filled X c n f⌝ ∗ slotPts fullShare c (zOf c) f)

section Box
variable {off size : Fin 4 → ℕ} (inb : ∀ a, off a + size a ≤ S4x16x16x66.size a)

theorem box_load_sub (z : Fin 4) (h0 : off 0 = z.val) (h1 : size 0 = 1) :
    commM.view.setOn (Rect.unit (s := S4x16x16x66) off size inb).toLoadRect.set ⊆ slotSet z := by
  have := box_sub inb z h0 h1
  rwa [View.set_slice] at this

theorem box_store_sub (z : Fin 4) (h0 : off 0 = z.val) (h1 : size 0 = 1) :
    (commM.access (Rect.unit (s := S4x16x16x66) off size inb)).setOn Finset.univ ⊆ slotSet z := by
  rw [View.setOn_univ]; exact box_sub inb z h0 h1

end Box

/-- One head. -/
theorem wp_head (c : Dev nD) (h : Fin 16) (k : PUnit → Prog (TpuEff nD τ sig (Elt F) Λ₀ .tc) PUnit) (Q : PUnit → sProp 𝕄) :
    iprop((filling X c h.val ∗ ins X c) ∗ ((filling X c (h.val + 1) ∗ ins X c) -∗ wp frame (wpE (defs₀ (F := F)) 𝒱₀ c none) Set.univ (k ⟨⟩) Q))
      ⊢ wp frame (wpE (defs₀ (F := F)) 𝒱₀ c none) Set.univ (headProg c (wOf X c) (nOf X c) h >>= k) Q := by
  have eU : offU c h 0 = (zOf c).val := congrFun (offU_eq c h) 0
  have eM : offM c h 0 = (zOf c).val := congrFun (offM_eq c h) 0
  have eL : offL c h 0 = (zOf c).val := congrFun (offL_eq c h) 0
  unfold headProg
  simp only [Prog.lift, Prog.bind_op, Prog.bind_ret, Prog.pure_eq_ret, Prog.bind_assoc]
  unfold filling ins
  iintro ⟨⟨⟨%f, %hf, Hs⟩, Hq, Hkk, Hv⟩, Hk⟩
  iapply (wp_load 𝒱₀ (c : Thread nD τ) none Set.univ (m := qM) (Finset.subset_univ _)) $$ Hq; iintro Hq
  iapply (wp_load 𝒱₀ (c : Thread nD τ) none Set.univ (m := kM) (Finset.subset_univ _)) $$ Hkk; iintro Hkk
  iapply (wp_load 𝒱₀ (c : Thread nD τ) none Set.univ (m := vM) (Finset.subset_univ _)) $$ Hv; iintro Hv
  iapply (wp_load 𝒱₀ (c : Thread nD τ) none Set.univ (m := commM) (box_load_sub (offU_inb c h) (zOf c) eU rfl)) $$ Hs; iintro Hs
  iapply (wp_store 𝒱₀ (c : Thread nD τ) none Set.univ (m := commM) (Mk := Finset.univ) (box_store_sub (offU_inb c h) (zOf c) eU rfl)) $$ Hs; iintro Hs
  iapply (wp_load 𝒱₀ (c : Thread nD τ) none Set.univ (m := commM) (box_load_sub (offM_inb c h) (zOf c) eM rfl)) $$ Hs; iintro Hs
  iapply (wp_store 𝒱₀ (c : Thread nD τ) none Set.univ (m := commM) (Mk := Finset.univ) (box_store_sub (offM_inb c h) (zOf c) eM rfl)) $$ Hs; iintro Hs
  iapply (wp_load 𝒱₀ (c : Thread nD τ) none Set.univ (m := commM) (box_load_sub (offL_inb c h) (zOf c) eL rfl)) $$ Hs; iintro Hs
  iapply (wp_store 𝒱₀ (c : Thread nD τ) none Set.univ (m := commM) (Mk := Finset.univ) (box_store_sub (offL_inb c h) (zOf c) eL rfl)) $$ Hs; iintro Hs
  iapply Hk
  isplitl [Hs]
  · iexists fill X c h f
    isplitr; · ipureintro; exact filled_fill X c h hf
    iexact Hs
  isplitl [Hq]; · iexact Hq
  isplitl [Hkk]; · iexact Hkk
  iexact Hv

/-- A run of consecutive heads. -/
theorem wp_heads (c : Dev nD) (k : Prog (TpuEff nD τ sig (Elt F) Λ₀ .tc) PUnit) (Q : PUnit → sProp 𝕄) :
    ∀ (hs : List (Fin 16)) (n : ℕ) (_ : hs.map Fin.val = List.range' n hs.length),
      iprop((filling X c n ∗ ins X c) ∗ ((filling X c (n + hs.length) ∗ ins X c) -∗ wp frame (wpE (defs₀ (F := F)) 𝒱₀ c none) Set.univ k Q))
        ⊢ wp frame (wpE (defs₀ (F := F)) 𝒱₀ c none) Set.univ (headsProg c (wOf X c) (nOf X c) k hs) Q
  | [], n, _ => by
      unfold headsProg
      iintro ⟨H, Hk⟩
      iapply Hk; iexact H
  | h :: hs, n, hn => by
      simp only [List.map_cons, List.length_cons, List.range'_succ, List.cons.injEq] at hn
      obtain ⟨h1, h2⟩ := hn
      subst h1
      unfold headsProg
      iintro ⟨H, Hk⟩
      iapply (wp_head X c h _ Q)
      isplitl [H]; · iexact H
      iintro H
      iapply (wp_heads c k Q hs (h.val + 1) h2)
      isplitl [H]; · iexact H
      rw [List.length_cons, Nat.add_right_comm, Nat.add_assoc h.val hs.length 1, ← Nat.add_assoc]
      iexact Hk

/-- All sixteen: the slot ends holding the group's contents. -/
theorem wp_allHeads (c : Dev nD) (k : Prog (TpuEff nD τ sig (Elt F) Λ₀ .tc) PUnit) (Q : PUnit → sProp 𝕄) :
    iprop(((∃ f, slotPts fullShare c (zOf c) f) ∗ ins X c)
        ∗ ((slotPts fullShare c (zOf c) (gath X c) ∗ ins X c) -∗ wp frame (wpE (defs₀ (F := F)) 𝒱₀ c none) Set.univ k Q))
      ⊢ wp frame (wpE (defs₀ (F := F)) 𝒱₀ c none) Set.univ (headsProg c (wOf X c) (nOf X c) k allHeads) Q := by
  iintro ⟨⟨⟨%f, Hs⟩, Hi⟩, Hk⟩
  iapply (wp_heads X c k Q allHeads 0 (by decide))
  isplitl [Hs Hi]
  · isplitl [Hs]
    · unfold filling; iexists f; isplitr; · ipureintro; exact filled_zero X c f
      iexact Hs
    iexact Hi
  iintro ⟨H, Hi⟩
  unfold filling
  icases H with ⟨%g, %hg, Hs⟩
  iapply Hk
  isplitl [Hs]
  · iapply (Entails.of_eq (pointsTo_congr (ℓ := (c : Thread nD τ).loc cc0_scratch0) (I := slotSet (zOf c)) (q := fullShare) (filled_all X c hg))); iexact Hs
  iexact Hi

end Cert.KernelIdeal.Paged

end
-- ==== Proof.KernelIdeal.Protocol.lean ====
/- The devices' protocol: which semaphore receives what from whom, what each payment hands over, what a device owes when the
   kernel starts, and the levels under which its waits are allowed.

   Device c, at place z of its group of four, with the others at places d:
   * barrier cell of c: one unit from each other device; the unit of the device at place d hands over slot z of THAT
     device's gather buffer, at any contents, and the fact that its receive cell z is open;
   * send cell k of c: one transfer of c itself, handing back the share of c's own slot that the transfer read;
   * receive cell d of c: one transfer from the device at place d, handing over c's slot d, filled. -/
module

public import proofs.«01_k».proof.Proof.KernelIdeal.Heads
public import Idealize.ShloMosaic.Lib.Rounds
public import Idealize.ShloMosaic.Lib.Transfers

@[expose] public section

noncomputable section

namespace Cert.KernelIdeal.Paged

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks)

variable {F : FTy → Type} [FloatOps F]

local notation "𝕄" => MT nD τ sig Unit (Elt F) ℕ UU ℕ

/-- The pipeline's copy of the rounds library and the talk's. -/
abbrev EP : Emb (UR sig nD τ) (MT nD τ sig Unit (Elt F) ℕ UU ℕ) := embL
abbrev ER : Emb UB (MT nD τ sig Unit (Elt F) ℕ UU ℕ) := embR

variable (X : Dev nD → Staged F)

/-! ## Cells -/

/-- The send semaphore of the `k`-th transfer, and the receive semaphore of slot `z`. -/
abbrev sendS (k : Fin 3) : DmaSem sig := ⟨6 + k.val, by have := k.isLt; show 6 + k.val < 13; omega⟩
abbrev recvS (z : Fin 4) : DmaSem sig := ⟨9 + z.val, by have := z.isLt; show 9 + z.val < 13; omega⟩
/-- The kernel's own semaphores: three for sends, four for receives. -/
abbrev own : Fin 3 ⊕ Fin 4 → SemLoc sig
  | .inl k => .dma (sendS k)
  | .inr z => .dma (recvS z)

theorem sendAt0 : sendAt ![0] inb_S3_S1_0 = sendS 0 := rfl
theorem sendAt1 : sendAt ![1] inb_S3_S1_1 = sendS 1 := rfl
theorem sendAt2 : sendAt ![2] inb_S3_S1_2 = sendS 2 := rfl
theorem recvAt_own (c : Dev nD) : recvAt (k0_off49 c) (k0_off49_inb c) = recvS (zOf c) := by revert c; decide +kernel
theorem recvAt0 (c : Dev nD) : recvAt (k0_off51 c 1#32) (k0_off51_inb c 0) = recvS (away c 0) := by revert c; decide +kernel
theorem recvAt1 (c : Dev nD) : recvAt (k0_off51 c 2#32) (k0_off51_inb c 1) = recvS (away c 1) := by revert c; decide +kernel
theorem recvAt2 (c : Dev nD) : recvAt (k0_off51 c 3#32) (k0_off51_inb c 2) = recvS (away c 2) := by revert c; decide +kernel

abbrev barCell (c : Dev nD) : GSem nD τ sig := ((c : Thread nD τ), .reg barS)
abbrev sendCell (c : Dev nD) (k : Fin 3) : GSem nD τ sig := ((c : Thread nD τ), .dma (sendS k))
abbrev recvCell (c : Dev nD) (z : Fin 4) : GSem nD τ sig := ((c : Thread nD τ), .dma (recvS z))

/-- What a transfer of a slot credits. -/
abbrev N : ℕ := (slotAt ![0, 0, 0, 0] (by decide)).view.dmaCredit
theorem N_pos : 0 < N := View.dmaCredit_pos _ (by decide)

/-! ## The schedule -/

/-- What the device at place `d` hands over with its barrier unit to `c`: its slot `z(c)`, and its receive cell for it open. -/
def barPay (c : Dev nD) (d : Fin 4) : sProp 𝕄 :=
  iprop((∃ f, slotPts fullShare (peer c d) (zOf c) f) ∗ reached ER (recvCell (peer c d) (zOf c)) 0)

/-- Who pays: places in the group. -/
def payers (c : Dev nD) : SemLoc sig → Finset (Fin 4)
  | .reg s => if s = barS then Finset.univ.erase (zOf c) else ∅
  | .dma s => if s.val < 6 then ∅ else if s.val < 9 then {zOf c} else Finset.univ.filter fun d => 9 + d.val = s.val ∧ d ≠ zOf c

/-- What is paid. -/
def pays (c : Dev nD) (d : Fin 4) : SemLoc sig → sProp 𝕄
  | .reg _ => barPay c d
  | .dma s => if s.val < 9 then slotPts (shareTokN fullShare (s.val - 6)) c (zOf c) (gath X c) else slotPts fullShare c d (gath X c)

/-- How much. -/
def price : SemLoc sig → ℕ
  | .reg _ => 1
  | .dma _ => N

def talkRd : Rounds.Schedule (GSem nD τ sig) (Fin 4) 𝕄 where
  duties g r := if r = 0 ∧ g.1.2 = .tc then payers g.1.1 g.2 else ∅
  unitless _ := False
  amount g _ _ := price g.2
  payload g _ d := pays X g.1.1 d g.2
  amount_pos g _ _ _ := by
    show 0 < price g.2
    cases g.2 with
    | reg s => exact Nat.one_pos
    | dma s => exact N_pos

instance talkRd_payload_storable (g : GSem nD τ sig) (r : ℕ) (d : Fin 4) :
    BI.Storable (upEmb : UEmb _ 𝕄) ((talkRd (F := F) X).payload g r d) := by
  show BI.Storable upEmb (pays X g.1.1 d g.2)
  cases g.2 with
  | reg s => dsimp only [pays, barPay]; infer_instance
  | dma s => dsimp only [pays]; split <;> infer_instance

section Tables

variable (c : Dev nD)

theorem duties_bar : (talkRd X).duties (barCell c) 0 = Finset.univ.erase (zOf c) := by
  dsimp only [talkRd]; rw [if_pos ⟨rfl, rfl⟩]; dsimp only [payers]; rw [if_pos rfl]
theorem duties_send (k : Fin 3) : (talkRd X).duties (sendCell c k) 0 = {zOf c} := by
  have := k.isLt
  dsimp only [talkRd]; rw [if_pos ⟨rfl, rfl⟩]; dsimp only [payers]; rw [if_neg (by omega), if_pos (by omega)]
theorem duties_recv (z : Fin 4) (hz : z ≠ zOf c) : (talkRd X).duties (recvCell c z) 0 = {z} := by
  dsimp only [talkRd]; rw [if_pos ⟨rfl, rfl⟩]; dsimp only [payers]; rw [if_neg (by omega), if_neg (by omega)]
  ext d; simp only [Finset.mem_filter, Finset.mem_univ, true_and, Finset.mem_singleton]
  constructor
  · rintro ⟨h, -⟩; exact Fin.ext (by omega)
  · rintro rfl; exact ⟨rfl, hz⟩
theorem duties_recv_own : (talkRd X).duties (recvCell c (zOf c)) 0 = ∅ := by
  dsimp only [talkRd]; rw [if_pos ⟨rfl, rfl⟩]; dsimp only [payers]; rw [if_neg (by omega), if_neg (by omega)]
  ext d; simp only [Finset.mem_filter, Finset.mem_univ, true_and, Finset.notMem_empty, iff_false]
  rintro ⟨h, h'⟩; exact h' (Fin.ext (by omega))
theorem duties_later (g : GSem nD τ sig) : ∀ r, 1 ≤ r → (talkRd X).duties g r = ∅ :=
  fun r hr => by dsimp only [talkRd]; rw [if_neg (fun h => by omega)]
theorem duties_none (g : GSem nD τ sig) (h : (talkRd X).duties g 0 = ∅) : ∀ r, 0 ≤ r → (talkRd X).duties g r = ∅ := fun r _ => by
  by_cases hr : r = 0
  · subst hr; exact h
  · exact duties_later X g r (by omega)

theorem expect_bar : (talkRd X).expect (barCell c) 0 = 3 := by
  unfold Schedule.expect Schedule.amountOf
  rw [duties_bar]
  show (∑ _d ∈ Finset.univ.erase (zOf c), 1) = 3
  rw [Finset.sum_const, Finset.card_erase_of_mem (Finset.mem_univ _)]; rfl
theorem expect_send (k : Fin 3) : (talkRd X).expect (sendCell c k) 0 = N := by
  unfold Schedule.expect Schedule.amountOf; rw [duties_send, Finset.sum_singleton]; rfl
theorem expect_recv (z : Fin 4) (hz : z ≠ zOf c) : (talkRd X).expect (recvCell c z) 0 = N := by
  unfold Schedule.expect Schedule.amountOf; rw [duties_recv X c z hz, Finset.sum_singleton]; rfl

theorem payload_bar (d : Fin 4) : (talkRd X).payload (barCell c) 0 d = barPay c d := rfl
theorem payload_send (k : Fin 3) (d : Fin 4) : (talkRd X).payload (sendCell c k) 0 d = slotPts (shareTokN fullShare k.val) c (zOf c) (gath X c) := by
  have := k.isLt
  dsimp only [talkRd, pays]; rw [if_pos (by omega), Nat.add_sub_cancel_left]
theorem payload_recv (z d : Fin 4) : (talkRd X).payload (recvCell c z) 0 d = slotPts fullShare c d (gath X c) := by
  dsimp only [talkRd, pays]; rw [if_neg (by omega)]

/-- The three units' payloads. -/
theorem rest_bar : bigSep ((talkRd X).duties (barCell c) 0 \ ∅) (fun d => (talkRd X).payload (barCell c) 0 d)
    = iprop(barPay c (away c 0) ∗ barPay c (away c 1) ∗ barPay c (away c 2)) := by
  rw [Finset.sdiff_empty, duties_bar, others_eq, bigSep_insert (by simp only [Finset.mem_insert, Finset.mem_singleton, not_or]; exact ⟨fun h => absurd (away_inj c h) (by decide), fun h => absurd (away_inj c h) (by decide)⟩),
    bigSep_insert (by rw [Finset.mem_singleton]; exact fun h => absurd (away_inj c h) (by decide)), bigSep_singleton]
  rfl
theorem rest_send (k : Fin 3) : bigSep ((talkRd X).duties (sendCell c k) 0 \ ∅) (fun d => (talkRd X).payload (sendCell c k) 0 d)
    = slotPts (shareTokN fullShare k.val) c (zOf c) (gath X c) := by
  rw [Finset.sdiff_empty, duties_send, bigSep_singleton, payload_send]
theorem rest_recv (z : Fin 4) (hz : z ≠ zOf c) : bigSep ((talkRd X).duties (recvCell c z) 0 \ ∅) (fun d => (talkRd X).payload (recvCell c z) 0 d)
    = slotPts fullShare c z (gath X c) := by
  rw [Finset.sdiff_empty, duties_recv X c z hz, bigSep_singleton, payload_recv]

end Tables

/-! ## What a device owes, and the levels -/

/-- The barrier unit and the receive credit owed to the `k`-th other device. -/
def barDue (c : Dev nD) (k : Fin 3) : CellTallies nD τ sig Unit := tallyAt (barCell (peer c (away c k))) () 1
def recvDue (c : Dev nD) (k : Fin 3) : CellTallies nD τ sig Unit := tallyAt (recvCell (peer c (away c k)) (zOf c)) () N
/-- What is owed from the wait on: the three receive credits; and what is owed at launch. -/
def O₃ (c : Dev nD) : CellTallies nD τ sig Unit := 0 + recvDue c 2 + recvDue c 1 + recvDue c 0
def O₀ (c : Dev nD) : CellTallies nD τ sig Unit := O₃ c + barDue c 2 + barDue c 1 + barDue c 0

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma s => if 9 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (z : Fin 4) : lv (recvCell c z) () = 2 := by dsimp only [lv]; rw [if_pos (by omega)]

theorem tallyAt_pos {g g' : GSem nD τ sig} {u : Unit} {n : ℕ} (h : 0 < (tallyAt g' () n : CellTallies nD τ sig Unit) g u) : g = g' := by
  rw [tallyAt_apply] at h
  split at h
  · next hg => exact hg.1
  · exact absurd h (Nat.lt_irrefl 0)

theorem O₃_pos {c : Dev nD} {g : GSem nD τ sig} {u : Unit} (h : 0 < O₃ c g u) : ∃ k, g = recvCell (peer c (away c k)) (zOf c) := by
  unfold O₃ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact absurd h (Nat.lt_irrefl 0)
      · exact ⟨2, tallyAt_pos h⟩
    · exact ⟨1, tallyAt_pos h⟩
  · exact ⟨0, tallyAt_pos h⟩

theorem O₀_pos {c : Dev nD} {g : GSem nD τ sig} {u : Unit} (h : 0 < O₀ c g u) :
    (∃ k, g = recvCell (peer c (away c k)) (zOf c)) ∨ ∃ k, g = barCell (peer c (away c k)) := by
  unfold O₀ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact .inl (O₃_pos h)
      · exact .inr ⟨2, tallyAt_pos h⟩
    · exact .inr ⟨1, tallyAt_pos h⟩
  · exact .inr ⟨0, tallyAt_pos h⟩

/-- The barrier wait is allowed: what is still owed lies above it. -/
theorem mayWait_bar (c : Dev nD) : (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by obtain ⟨k, rfl⟩ := O₃_pos hg; rw [L_tc]; exact Finset.mem_singleton_self _)
    (fun p hp => by rw [Finset.mem_singleton.mp hp]; exact Nat.le_refl _)
    (fun g u hg => by obtain ⟨k, rfl⟩ := O₃_pos hg; cases u; rw [lv_recv]; decide)

theorem owed_cut (c : Dev nD) {g : GSem nD τ sig} {u : Unit} (h : 0 < O₀ c g u) : u ∈ L g ∧ (0 : ℕ) < lv g u := by
  rcases O₀_pos h with ⟨k, rfl⟩ | ⟨k, rfl⟩
  · exact ⟨by rw [L_tc]; exact Finset.mem_singleton_self _, by cases u; rw [lv_recv]; decide⟩
  · exact ⟨by rw [L_tc]; exact Finset.mem_singleton_self _, Nat.one_pos⟩

end Cert.KernelIdeal.Paged

end
-- ==== Proof.KernelIdeal.Body.lean ====
/- The kernel's body on one device, from what it starts with to what it leaves: its own slot filled head by head, sent to the
   three others, their slots received, the four slots combined. -/
module

public import proofs.«01_k».proof.Proof.KernelIdeal.Protocol

@[expose] public section

noncomputable section

namespace Cert.KernelIdeal.Paged

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks)

variable {F : FTy → Type} [FloatOps F]

local notation "𝕄" => MT nD τ sig Unit (Elt F) ℕ UU ℕ

variable (X : Dev nD → Staged F)

/-! ## The result's contents -/

/-- The three views of the gather buffer that the body combines, of any contents. -/
def allU (g : S4x16x16x66.Idx → Elt F .f32) : Vec F S4x16x16x64 .f32 :=
  commM.view.readAt (Elt F) (Rect.unit (s := S4x16x16x66) ![0, 0, 0, 0] S4x16x16x64.size inb_S4x16x16x66_S4x16x16x64_0_0_0_0).toLoadRect g
def allM (g : S4x16x16x66.Idx → Elt F .f32) : Vec F S4x16x16x1 .f32 :=
  commM.view.readAt (Elt F) (Rect.unit (s := S4x16x16x66) ![0, 0, 0, 64] S4x16x16x1.size inb_S4x16x16x66_S4x16x16x1_0_0_0_64).toLoadRect g
def allL (g : S4x16x16x66.Idx → Elt F .f32) : Vec F S4x16x16x1 .f32 :=
  commM.view.readAt (Elt F) (Rect.unit (s := S4x16x16x66) ![0, 0, 0, 65] S4x16x16x1.size inb_S4x16x16x66_S4x16x16x1_0_0_0_65).toLoadRect g

/-- What a device computes: the four slots combined. -/
def outOf (c : Dev nD) : Vec F S16x16x64 .f32 := k0_pay127 (allU (gath X c)) (allM (gath X c)) (allL (gath X c))

theorem write_out (f w : S16x16x64.Idx → Elt F .f32) :
    (oM.access (Rect.unit (s := S16x16x64) ![0, 0, 0] S16x16x64.size inb_S16x16x64_S16x16x64_0_0_0) : View sig .tc _ _ _).write (Elt F) f w Finset.univ = w :=
  Memref.write_access_unit_zero_univ (Elt F) cc0_stg5_0 (funext fun a => by fin_cases a <;> rfl) _ f w

/-! ## Slots and shares -/

theorem bigSep_three (Φ : Fin 3 → sProp 𝕄) : bigSep Finset.univ Φ = iprop(Φ 0 ∗ Φ 1 ∗ Φ 2) := bigSep_univ_eq_bigSepL [0, 1, 2] (by decide) (by decide) Φ

/-- A family over the places of a group: the device's own first, then the others. -/
theorem bigSep_places (c : Dev nD) (Φ : Fin 4 → sProp 𝕄) :
    bigSep Finset.univ Φ = iprop(Φ (zOf c) ∗ Φ (away c 0) ∗ Φ (away c 1) ∗ Φ (away c 2)) := by
  rw [bigSep_univ_at _ (zOf c), others_eq,
    bigSep_insert (by simp only [Finset.mem_insert, Finset.mem_singleton, not_or]; exact ⟨fun h => absurd (away_inj c h) (by decide), fun h => absurd (away_inj c h) (by decide)⟩),
    bigSep_insert (by rw [Finset.mem_singleton]; exact fun h => absurd (away_inj c h) (by decide)), bigSep_singleton]
  rfl

/-- The gather buffer, held at one share, is its four slots. -/
theorem comm_slots (c : Dev nD) (q : PosShare TreeShare) (f : S4x16x16x66.Idx → Elt F .f32) :
    ((c : Thread nD τ).loc cc0_scratch0 ↦{q} f : sProp 𝕄)
      = iprop(slotPts q c (zOf c) f ∗ slotPts q c (away c 0) f ∗ slotPts q c (away c 1) f ∗ slotPts q c (away c 2) f) := by
  refine Eq.trans ?_ (bigSep_places c (fun z => slotPts q c z f))
  refine Eq.trans ?_ (pointsTo_biUnion (ℓ := (c : Thread nD τ).loc cc0_scratch0) Finset.univ slotSet (fun z _ z' _ h => slot_disjoint h))
  rw [slots_cover]

/-- A slot held in full is the share kept for reading and the three shares that travel. -/
theorem slot_shares (c : Dev nD) (z : Fin 4) (f : S4x16x16x66.Idx → Elt F .f32) :
    (slotPts fullShare c z f : sProp 𝕄) ⊣⊢ iprop(slotPts (shareDrop fullShare 3) c z f
      ∗ slotPts (shareTokN fullShare 0) c z f ∗ slotPts (shareTokN fullShare 1) c z f ∗ slotPts (shareTokN fullShare 2) c z f) := by
  have h := pointsTo_toks (nD := nD) (τ := τ) (sig := sig) (Ix := Unit) (Val := Elt F) (Name := ℕ) (U := UU) (Lvl := ℕ)
    (ℓ := (c : Thread nD τ).loc cc0_scratch0) (S := slotSet z) (f := f) fullShare 3
  rw [bigSep_three] at h
  exact h

/-! ## One send, one wait -/

/-- What lands: the slot written with the sender's slot holds the sender's contents. -/
theorem landed (v : View sig .tc .vmem S16x16x66 .f32) (fd g : v.ty.Contents (Elt F)) :
    ∀ i ∈ v.set, v.write (Elt F) fd (v.read (Elt F) g) Finset.univ i = g i := fun i hi => by
  obtain ⟨x, -, rfl⟩ := Finset.mem_map.mp hi
  rw [View.write_emb_of_mem _ _ (Finset.mem_univ x)]
  unfold View.read
  simp

variable (K : GSem nD τ sig → ℕ)

set_option maxHeartbeats 800000 in
theorem wp_send_slot (c n : Dev nD) (k : Fin 3) (hn : n = peer c (away c k)) (sS rS : DmaSem sig) (hs : sS = sendS k) (hr : rS = recvS (zOf c))
    {hsc : (slotAt (k0_off50 c) (k0_off50_inb c) : Memref sig (Dev.tc n : Thread nD τ).2.kind .vmem S16x16x66 .f32).view.ref.isScScratch = false}
    {hsrc : (slotAt (k0_off50 c) (k0_off50_inb c)).view.WordExact} {hdst : (slotAt (k0_off50 c) (k0_off50_inb c) : Memref sig (Dev.tc n : Thread nD τ).2.kind .vmem S16x16x66 .f32).view.WordExact}
    {hsem : DmaTarget.Typed .vmem (.dma rS) (.remote (Dev.tc n : Thread nD τ) (slotAt (k0_off50 c) (k0_off50_inb c)) (.dma sS) hsc)}
    {kk : PUnit → Prog (TpuEff nD τ sig (Elt F) Λ₀ .tc) PUnit} {Q : PUnit → sProp 𝕄}
    (fd : S4x16x16x66.Idx → Elt F .f32) (O : CellTallies nD τ sig Unit) (W : Waits sig Unit) :
    iprop(cellInv ER (talkRd X) (K (sendCell c k)) (sendCell c k) ∗ cellInv ER (talkRd X) (K (recvCell (peer c (away c k)) (zOf c))) (recvCell (peer c (away c k)) (zOf c))
        ∗ slotPts (shareTokN fullShare k.val) c (zOf c) (gath X c) ∗ slotPts fullShare (peer c (away c k)) (zOf c) fd
        ∗ owes (c : Thread nD τ) (O + recvDue c k) W
        ∗ dutyTok ER (sendCell c k) 0 (zOf c) ∗ reached ER (sendCell c k) 0
        ∗ dutyTok ER (recvCell (peer c (away c k)) (zOf c)) 0 (zOf c) ∗ reached ER (recvCell (peer c (away c k)) (zOf c)) 0)
      ⊢ iprop((cred (tallyAt (sendCell c k) () N) ∗ owes (c : Thread nD τ) O W -∗ wp frame (wpE (defs₀ (F := F)) 𝒱₀ c none) Set.univ (kk ⟨⟩) Q)
        -∗ wp frame (wpE (defs₀ (F := F)) 𝒱₀ c none) Set.univ
            (.op (.enqueueDma (slotAt (k0_off50 c) (k0_off50_inb c)) (.remote (Dev.tc n) (slotAt (k0_off50 c) (k0_off50_inb c)) (.dma sS) hsc) (.dma rS) hsrc hdst hsem) kk) Q) := by
  subst hn hs hr
  have hset := slotAt_set (k0_off50_inb c) (zOf c) (off50_eq c)
  have hne : zOf c ≠ zOf (peer c (away c k)) := by rw [zOf_peer]; exact (away_ne c k).symm
  refine BI.Entails.trans ?_ (Rounds.wp_send_pointsTo 𝒱₀ ER (talkRd X) (c : Thread nD τ) none (c' := (peer c (away c k) : Thread nD τ)) (src := slotAt (k0_off50 c) (k0_off50_inb c))
      (dst := slotAt (k0_off50 c) (k0_off50_inb c)) (sS := .dma (sendS k)) (sem := .dma (recvS (zOf c))) (q := shareTokN fullShare k.val) (fs := gath X c) (fd := fd)
      (κ₁ := K (sendCell c k)) (κ₂ := K (recvCell (peer c (away c k)) (zOf c))) (r₁ := 0) (r₂ := 0) (d₁ := zOf c) (d₂ := zOf c)
      (by rw [duties_send]; exact Finset.mem_singleton_self _) (by rw [duties_recv X _ _ hne]; exact Finset.mem_singleton_self _)
      () () N rfl rfl rfl O (O₀ := O + recvDue c k) rfl (W := W)
      (by rw [payload_send, hset])
      (by
        rw [payload_recv, gath_peer, pointsTo_congr (landed (slotAt (k0_off50 c) (k0_off50_inb c)).view fd (gath X c)), hset]))
  rw [hset]
  exact BI.Entails.refl _

set_option maxHeartbeats 800000 in
theorem wp_wait_slot (c : Dev nD) (s' s : DmaSem sig) (hs : s' = s) (he : (talkRd X).expect ((c : Thread nD τ), .dma s) 0 = N) (W : Waits sig Unit)
    {M : Memref sig .tc .vmem S16x16x66 .f32} {hM hM' : M.view.WordExact} (hN : M.view.dmaCredit = N)
    {kk : PUnit → Prog (TpuEff nD τ sig (Elt F) Λ₀ .tc) PUnit} {Q : PUnit → sProp 𝕄} :
    iprop(cellInv ER (talkRd X) (K ((c : Thread nD τ), .dma s)) ((c : Thread nD τ), .dma s) ∗ cred (tallyAt ((c : Thread nD τ), .dma s) () N)
        ∗ owes (c : Thread nD τ) (0 : CellTallies nD τ sig Unit) W ∗ atPos ER ((c : Thread nD τ), .dma s) 0 ∅ 0)
      ⊢ iprop((owes (c : Thread nD τ) (0 : CellTallies nD τ sig Unit) (insert (.dma s, ()) W) ∗ atPos ER ((c : Thread nD τ), .dma s) 1 ∅ 0
            ∗ bigSep ((talkRd X).duties ((c : Thread nD τ), .dma s) 0 \ ∅) (fun d => (talkRd X).payload ((c : Thread nD τ), .dma s) 0 d)
            -∗ wp frame (wpE (defs₀ (F := F)) 𝒱₀ c none) Set.univ (kk ⟨⟩) Q)
        -∗ wp frame (wpE (defs₀ (F := F)) 𝒱₀ c none) Set.univ (.op (.waitDma2 s' M M hM hM') kk) Q) := by
  subst hs
  iintro ⟨HI, Hc, HO, Hat⟩ Hk
  rw [← hN]
  iapply (Rounds.wp_wait_rest_token 𝒱₀ ER (talkRd X) (c : Thread nD τ) none (κ := K ((c : Thread nD τ), .dma s'))
      (wpE_waitDma2_eq (src := M) (dst := M) 𝒱₀ (c : Thread nD τ) none Set.univ) (Set.mem_univ _) () (O := 0) (W := W) (R := 0) (m := 0) (T := ∅)
      ((Nat.zero_add _).trans (hN.trans he.symm))) $$ [HI Hc HO Hat]
  · isplitl [HI]; · iexact HI
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iexact Hpay

/-! ## The protocol's state on a device -/

/-- Every cell's invariant. -/
def invs : sProp 𝕄 :=
  iprop((bigSep Finset.univ fun c : Dev nD => cellInv ER (talkRd X) (K (barCell c)) (barCell c))
    ∗ bigSep Finset.univ fun ck : Dev nD × (Fin 3 ⊕ Fin 4) => cellInv ER (talkRd X) (K ((ck.1 : Thread nD τ), own ck.2)) ((ck.1 : Thread nD τ), own ck.2))

instance invs_persistent : BI.Persistent (invs X K) := by unfold invs; infer_instance

theorem fam_elim {I : Type} [DecidableEq I] [Fintype I] (Φ : I → sProp 𝕄) (i : I) : (bigSep Finset.univ Φ : sProp 𝕄) ⊢ Φ i := bigSep_elim (Finset.mem_univ i)

theorem inv_bar (c : Dev nD) : invs X K ⊢ cellInv ER (talkRd X) (K (barCell c)) (barCell c) := by
  unfold invs; iintro ⟨H, -⟩
  iapply (fam_elim (fun c : Dev nD => cellInv ER (talkRd X) (K (barCell c)) (barCell c)) c); iexact H
theorem inv_send (c : Dev nD) (k : Fin 3) : invs X K ⊢ cellInv ER (talkRd X) (K (sendCell c k)) (sendCell c k) := by
  unfold invs; iintro ⟨-, H⟩
  iapply (fam_elim (fun ck : Dev nD × (Fin 3 ⊕ Fin 4) => cellInv ER (talkRd X) (K ((ck.1 : Thread nD τ), own ck.2)) ((ck.1 : Thread nD τ), own ck.2)) (c, .inl k)); iexact H
theorem inv_recv (c : Dev nD) (z : Fin 4) : invs X K ⊢ cellInv ER (talkRd X) (K (recvCell c z)) (recvCell c z) := by
  unfold invs; iintro ⟨-, H⟩
  iapply (fam_elim (fun ck : Dev nD × (Fin 3 ⊕ Fin 4) => cellInv ER (talkRd X) (K ((ck.1 : Thread nD τ), own ck.2)) ((ck.1 : Thread nD τ), own ck.2)) (c, .inr z)); iexact H

/-- The tokens of the duties the device pays. -/
def payToks (c : Dev nD) (k : Fin 3) : sProp 𝕄 :=
  iprop(dutyTok ER (barCell (peer c (away c k))) 0 (zOf c) ∗ dutyTok ER (recvCell (peer c (away c k)) (zOf c)) 0 (zOf c) ∗ dutyTok ER (sendCell c k) 0 (zOf c))

/-- The device's positions on its own cells, those cells' openness, the openness of every barrier cell, its duty tokens. -/
def opened (c : Dev nD) : sProp 𝕄 :=
  iprop(invs X K ∗ atPos ER (barCell c) 0 ∅ 0
    ∗ (bigSep Finset.univ fun k : Fin 3 => iprop(atPos ER (sendCell c k) 0 ∅ 0 ∗ reached ER (sendCell c k) 0))
    ∗ (bigSep Finset.univ fun z : Fin 4 => iprop(atPos ER (recvCell c z) 0 ∅ 0 ∗ reached ER (recvCell c z) 0))
    ∗ (bigSep Finset.univ fun c' : Dev nD => reached ER (barCell c') 0)
    ∗ bigSep Finset.univ (payToks c))

/-- The credits a device waits with. -/
def credits (c : Dev nD) : sProp 𝕄 :=
  iprop(cred (tallyAt (barCell c) () 3) ∗ bigSep Finset.univ fun k : Fin 3 => cred (tallyAt (recvCell c (away c k)) () N))

/-- The body's start. -/
def bodyPre (c : Dev nD) (W : Waits sig Unit) : sProp 𝕄 :=
  iprop(opened X K c ∗ credits c ∗ levAts L lv ∗ (∃ f, stg c cc0_scratch0 f) ∗ ins X c ∗ stg c cc0_stg3_0 (X c).bt ∗ stg c cc0_stg4_0 (X c).lens
    ∗ (∃ f, stg c cc0_stg5_0 f) ∗ owes (c : Thread nD τ) (O₀ c) W)

/-- The body's end: every counter at zero, the gather buffer at some contents, the operands as they were, the result. -/
def bodyPost (c : Dev nD) : sProp 𝕄 :=
  iprop(semVal (barCell c) 0 ∗ ((bigSep Finset.univ fun k : Fin 3 => semVal (sendCell c k) 0) ∗ bigSep Finset.univ fun z : Fin 4 => semVal (recvCell c z) 0)
    ∗ (∃ f, stg c cc0_scratch0 f) ∗ ins X c ∗ stg c cc0_stg3_0 (X c).bt ∗ stg c cc0_stg4_0 (X c).lens
    ∗ stg c cc0_stg5_0 (outOf X c) ∗ ∃ W, owes (c : Thread nD τ) (0 : CellTallies nD τ sig Unit) W)

theorem close_one (κ : ℕ) (g : GSem nD τ sig) :
    iprop(cellInv ER (talkRd X) κ g ∗ atPos ER g 1 ∅ 0) ⊢ (|={Set.univ}=> semVal g 0 : sProp 𝕄) :=
  Rounds.cell_close ER (talkRd X) (Set.mem_univ κ) id (duties_later X g)
theorem close_none (κ : ℕ) (g : GSem nD τ sig) (h : (talkRd X).duties g 0 = ∅) :
    iprop(cellInv ER (talkRd X) κ g ∗ atPos ER g 0 ∅ 0) ⊢ (|={Set.univ}=> semVal g 0 : sProp 𝕄) :=
  Rounds.cell_close ER (talkRd X) (Set.mem_univ κ) id (duties_none X g h)

/-- The start of the sends: the own slot filled, the three others' slots received at any contents. -/
def tailPre (c : Dev nD) (W : Waits sig Unit) : sProp 𝕄 :=
  iprop(invs X K
    ∗ (bigSep Finset.univ fun k : Fin 3 => iprop(atPos ER (sendCell c k) 0 ∅ 0 ∗ reached ER (sendCell c k) 0))
    ∗ (bigSep Finset.univ fun z : Fin 4 => iprop(atPos ER (recvCell c z) 0 ∅ 0 ∗ reached ER (recvCell c z) 0))
    ∗ (bigSep Finset.univ fun k : Fin 3 => iprop(dutyTok ER (recvCell (peer c (away c k)) (zOf c)) 0 (zOf c) ∗ dutyTok ER (sendCell c k) 0 (zOf c)))
    ∗ (bigSep Finset.univ fun k : Fin 3 => cred (tallyAt (recvCell c (away c k)) () N))
    ∗ (bigSep Finset.univ fun k : Fin 3 => barPay c (away c k))
    ∗ slotPts fullShare c (zOf c) (gath X c) ∗ (∃ f, stg c cc0_stg5_0 f) ∗ owes (c : Thread nD τ) (O₃ c) W)

/-- Its end. -/
def tailPost (c : Dev nD) : sProp 𝕄 :=
  iprop(((bigSep Finset.univ fun k : Fin 3 => semVal (sendCell c k) 0) ∗ bigSep Finset.univ fun z : Fin 4 => semVal (recvCell c z) 0)
    ∗ stg c cc0_scratch0 (gath X c) ∗ stg c cc0_stg5_0 (outOf X c) ∗ ∃ W, owes (c : Thread nD τ) (0 : CellTallies nD τ sig Unit) W)

theorem wp_done (c : Dev nD) (Q : PUnit → sProp 𝕄) : Q ⟨⟩ ⊢ wp frame (wpE (defs₀ (F := F)) 𝒱₀ c none) Set.univ (.ret ⟨⟩) Q := by
  rw [wp_ret]; iintro H; imodintro; iexact H

set_option maxHeartbeats 4000000 in
/-- The sends, the receives, the combination and the send waits. -/
theorem wp_tail (c : Dev nD) (W : Waits sig Unit) (Q : PUnit → sProp 𝕄) :
    iprop(tailPre X K c W ∗ (tailPost X c -∗ Q ⟨⟩)) ⊢ wp frame (wpE (defs₀ (F := F)) 𝒱₀ c none) Set.univ (tailProg (F := F) c) Q := by
  unfold tailProg sendProg waitProg
  simp only [Prog.lift, Prog.bind_op, Prog.bind_ret, Prog.pure_eq_ret, Prog.bind_assoc]
  unfold tailPre
  simp only [bigSep_three, bigSep_places c]
  unfold barPay O₃
  iintro ⟨⟨#HI, ⟨⟨HaS0, #HrS0⟩, ⟨HaS1, #HrS1⟩, ⟨HaS2, #HrS2⟩⟩, ⟨⟨HaVo, -⟩, ⟨HaV0, -⟩, ⟨HaV1, -⟩, ⟨HaV2, -⟩⟩,
    ⟨⟨HtV0, HtS0⟩, ⟨HtV1, HtS1⟩, ⟨HtV2, HtS2⟩⟩, ⟨HcV0, HcV1, HcV2⟩,
    ⟨⟨⟨%f0, Hp0⟩, #HrP0⟩, ⟨⟨%f1, Hp1⟩, #HrP1⟩, ⟨⟨%f2, Hp2⟩, #HrP2⟩⟩, Hs, ⟨%fo, Ho⟩, HO⟩, Hk⟩
  ihave Hs4 := (slot_shares c (zOf c) (gath X c)).1 $$ Hs
  icases Hs4 with ⟨Hs, Ht0, Ht1, Ht2⟩
  -- the three sends
  iapply (wp_send_slot X K c _ 0 (dev4_eq c) _ _ sendAt0 (recvAt_own c) f0 (0 + recvDue c 2 + recvDue c 1) W) $$ [Ht0 Hp0 HO HtS0 HtV0]
  · isplitr; · iapply (inv_send X K c 0); iexact HI
    isplitr; · iapply (inv_recv X K (peer c (away c 0)) (zOf c)); iexact HI
    isplitl [Ht0]; · iexact Ht0
    isplitl [Hp0]; · iexact Hp0
    isplitl [HO]; · iexact HO
    isplitl [HtS0]; · iexact HtS0
    isplitr; · iexact HrS0
    isplitl [HtV0]; · iexact HtV0
    iexact HrP0
  iintro ⟨HcS0, HO⟩
  iapply (wp_send_slot X K c _ 1 (dev5_eq c) _ _ sendAt1 (recvAt_own c) f1 (0 + recvDue c 2) W) $$ [Ht1 Hp1 HO HtS1 HtV1]
  · isplitr; · iapply (inv_send X K c 1); iexact HI
    isplitr; · iapply (inv_recv X K (peer c (away c 1)) (zOf c)); iexact HI
    isplitl [Ht1]; · iexact Ht1
    isplitl [Hp1]; · iexact Hp1
    isplitl [HO]; · iexact HO
    isplitl [HtS1]; · iexact HtS1
    isplitr; · iexact HrS1
    isplitl [HtV1]; · iexact HtV1
    iexact HrP1
  iintro ⟨HcS1, HO⟩
  iapply (wp_send_slot X K c _ 2 (dev6_eq c) _ _ sendAt2 (recvAt_own c) f2 0 W) $$ [Ht2 Hp2 HO HtS2 HtV2]
  · isplitr; · iapply (inv_send X K c 2); iexact HI
    isplitr; · iapply (inv_recv X K (peer c (away c 2)) (zOf c)); iexact HI
    isplitl [Ht2]; · iexact Ht2
    isplitl [Hp2]; · iexact Hp2
    isplitl [HO]; · iexact HO
    isplitl [HtS2]; · iexact HtS2
    isplitr; · iexact HrS2
    isplitl [HtV2]; · iexact HtV2
    iexact HrP2
  iintro ⟨HcS2, HO⟩
  -- the three receives: the others' slots, filled
  iapply (wp_wait_slot X K c _ (recvS (away c 0)) (recvAt0 c) (expect_recv X c _ (away_ne c 0)) _ (M := slotAt (k0_off52 c 1#32) (k0_off52_inb c 0)) rfl) $$ [HcV0 HO HaV0]
  · isplitr; · iapply (inv_recv X K c (away c 0)); iexact HI
    isplitl [HcV0]; · iexact HcV0
    isplitl [HO]; · iexact HO
    iexact HaV0
  iintro ⟨HO, HaV0, Hp⟩
  ihave Hl0 := (Entails.of_eq (rest_recv X c _ (away_ne c 0))) $$ Hp
  iapply (wp_wait_slot X K c _ (recvS (away c 1)) (recvAt1 c) (expect_recv X c _ (away_ne c 1)) _ (M := slotAt (k0_off52 c 2#32) (k0_off52_inb c 1)) rfl) $$ [HcV1 HO HaV1]
  · isplitr; · iapply (inv_recv X K c (away c 1)); iexact HI
    isplitl [HcV1]; · iexact HcV1
    isplitl [HO]; · iexact HO
    iexact HaV1
  iintro ⟨HO, HaV1, Hp⟩
  ihave Hl1 := (Entails.of_eq (rest_recv X c _ (away_ne c 1))) $$ Hp
  iapply (wp_wait_slot X K c _ (recvS (away c 2)) (recvAt2 c) (expect_recv X c _ (away_ne c 2)) _ (M := slotAt (k0_off52 c 3#32) (k0_off52_inb c 2)) rfl) $$ [HcV2 HO HaV2]
  · isplitr; · iapply (inv_recv X K c (away c 2)); iexact HI
    isplitl [HcV2]; · iexact HcV2
    isplitl [HO]; · iexact HO
    iexact HaV2
  iintro ⟨HO, HaV2, Hp⟩
  ihave Hl2 := (Entails.of_eq (rest_recv X c _ (away_ne c 2))) $$ Hp
  -- the whole buffer at the share kept for reading
  ihave Hq0 := (slot_shares c (away c 0) (gath X c)).1 $$ Hl0
  icases Hq0 with ⟨Hl0, Hb00, Hb01, Hb02⟩
  ihave Hq1 := (slot_shares c (away c 1) (gath X c)).1 $$ Hl1
  icases Hq1 with ⟨Hl1, Hb10, Hb11, Hb12⟩
  ihave Hq2 := (slot_shares c (away c 2) (gath X c)).1 $$ Hl2
  icases Hq2 with ⟨Hl2, Hb20, Hb21, Hb22⟩
  ihave Hall := (Entails.of_eq (comm_slots c (shareDrop fullShare 3) (gath X c)).symm) $$ [Hs Hl0 Hl1 Hl2]
  · isplitl [Hs]; · iexact Hs
    isplitl [Hl0]; · iexact Hl0
    isplitl [Hl1] <;> iassumption
  iapply (wp_load 𝒱₀ (c : Thread nD τ) none Set.univ (m := commM) (Finset.subset_univ _)) $$ Hall; iintro Hall
  iapply (wp_load 𝒱₀ (c : Thread nD τ) none Set.univ (m := commM) (Finset.subset_univ _)) $$ Hall; iintro Hall
  iapply (wp_load 𝒱₀ (c : Thread nD τ) none Set.univ (m := commM) (Finset.subset_univ _)) $$ Hall; iintro Hall
  iapply (wp_load 𝒱₀ (c : Thread nD τ) none Set.univ (m := oM) (Finset.subset_univ _)) $$ Ho; iintro Ho
  iapply (wp_store 𝒱₀ (c : Thread nD τ) none Set.univ (m := oM) (r := Rect.unit (s := S16x16x64) ![0, 0, 0] S16x16x64.size inb_S16x16x64_S16x16x64_0_0_0) (Mk := Finset.univ) (Finset.subset_univ _)) $$ Ho; iintro Ho
  rw [write_out]
  ihave Hall4 := (Entails.of_eq (comm_slots c (shareDrop fullShare 3) (gath X c))) $$ Hall
  icases Hall4 with ⟨Hs, Hl0, Hl1, Hl2⟩
  -- the three send waits: the own slot's travelling shares back
  iapply (wp_wait_slot X K c _ (sendS 0) sendAt0 (expect_send X c 0) _ (M := slotAt (k0_off50 c) (k0_off50_inb c)) rfl) $$ [HcS0 HO HaS0]
  · isplitr; · iapply (inv_send X K c 0); iexact HI
    isplitl [HcS0]; · iexact HcS0
    isplitl [HO]; · iexact HO
    iexact HaS0
  iintro ⟨HO, HaS0, Hp⟩
  ihave Ht0 := (Entails.of_eq (rest_send X c 0)) $$ Hp
  iapply (wp_wait_slot X K c _ (sendS 1) sendAt1 (expect_send X c 1) _ (M := slotAt (k0_off50 c) (k0_off50_inb c)) rfl) $$ [HcS1 HO HaS1]
  · isplitr; · iapply (inv_send X K c 1); iexact HI
    isplitl [HcS1]; · iexact HcS1
    isplitl [HO]; · iexact HO
    iexact HaS1
  iintro ⟨HO, HaS1, Hp⟩
  ihave Ht1 := (Entails.of_eq (rest_send X c 1)) $$ Hp
  iapply (wp_wait_slot X K c _ (sendS 2) sendAt2 (expect_send X c 2) _ (M := slotAt (k0_off50 c) (k0_off50_inb c)) rfl) $$ [HcS2 HO HaS2]
  · isplitr; · iapply (inv_send X K c 2); iexact HI
    isplitl [HcS2]; · iexact HcS2
    isplitl [HO]; · iexact HO
    iexact HaS2
  iintro ⟨HO, HaS2, Hp⟩
  ihave Ht2 := (Entails.of_eq (rest_send X c 2)) $$ Hp
  -- the buffer in full again
  ihave Hs := (slot_shares c (zOf c) (gath X c)).2 $$ [Hs Ht0 Ht1 Ht2]
  · isplitl [Hs]; · iexact Hs
    isplitl [Ht0]; · iexact Ht0
    isplitl [Ht1]; · iexact Ht1
    iexact Ht2
  ihave Hl0 := (slot_shares c (away c 0) (gath X c)).2 $$ [Hl0 Hb00 Hb01 Hb02]
  · isplitl [Hl0]; · iexact Hl0
    isplitl [Hb00]; · iexact Hb00
    isplitl [Hb01] <;> iassumption
  ihave Hl1 := (slot_shares c (away c 1) (gath X c)).2 $$ [Hl1 Hb10 Hb11 Hb12]
  · isplitl [Hl1]; · iexact Hl1
    isplitl [Hb10]; · iexact Hb10
    isplitl [Hb11] <;> iassumption
  ihave Hl2 := (slot_shares c (away c 2) (gath X c)).2 $$ [Hl2 Hb20 Hb21 Hb22]
  · isplitl [Hl2]; · iexact Hl2
    isplitl [Hb20]; · iexact Hb20
    isplitl [Hb21] <;> iassumption
  ihave Hall := (Entails.of_eq (comm_slots c fullShare (gath X c)).symm) $$ [Hs Hl0 Hl1 Hl2]
  · isplitl [Hs]; · iexact Hs
    isplitl [Hl0]; · iexact Hl0
    isplitl [Hl1] <;> iassumption
  -- every cell closed
  rw [wp_ret]
  imod (close_one X (K (sendCell c 0)) (sendCell c 0)) $$ [HaS0] with HzS0
  · isplitr; · iapply (inv_send X K c 0); iexact HI
    iexact HaS0
  imod (close_one X (K (sendCell c 1)) (sendCell c 1)) $$ [HaS1] with HzS1
  · isplitr; · iapply (inv_send X K c 1); iexact HI
    iexact HaS1
  imod (close_one X (K (sendCell c 2)) (sendCell c 2)) $$ [HaS2] with HzS2
  · isplitr; · iapply (inv_send X K c 2); iexact HI
    iexact HaS2
  imod (close_none X (K (recvCell c (zOf c))) (recvCell c (zOf c)) (duties_recv_own X c)) $$ [HaVo] with HzVo
  · isplitr; · iapply (inv_recv X K c (zOf c)); iexact HI
    iexact HaVo
  imod (close_one X (K (recvCell c (away c 0))) (recvCell c (away c 0))) $$ [HaV0] with HzV0
  · isplitr; · iapply (inv_recv X K c (away c 0)); iexact HI
    iexact HaV0
  imod (close_one X (K (recvCell c (away c 1))) (recvCell c (away c 1))) $$ [HaV1] with HzV1
  · isplitr; · iapply (inv_recv X K c (away c 1)); iexact HI
    iexact HaV1
  imod (close_one X (K (recvCell c (away c 2))) (recvCell c (away c 2))) $$ [HaV2] with HzV2
  · isplitr; · iapply (inv_recv X K c (away c 2)); iexact HI
    iexact HaV2
  imodintro
  iapply Hk
  unfold tailPost
  simp only [bigSep_three, bigSep_places c]
  isplitl [HzS0 HzS1 HzS2 HzVo HzV0 HzV1 HzV2]
  · isplitl [HzS0 HzS1 HzS2]
    · isplitl [HzS0]; · iexact HzS0
      isplitl [HzS1] <;> iassumption
    isplitl [HzVo]; · iexact HzVo
    isplitl [HzV0]; · iexact HzV0
    isplitl [HzV1] <;> iassumption
  isplitl [Hall]; · iexact Hall
  isplitl [Ho]; · iexact Ho
  iexists _; iexact HO

/-- One signal of the opening barrier: it hands the peer the own slot at the peer's place, with that slot's receive cell open. -/
theorem wp_signal_peer (c n : Dev nD) (k : Fin 3) (hn : n = peer c (away c k)) (O : CellTallies nD τ sig Unit) (W : Waits sig Unit)
    {kk : PUnit → Prog (TpuEff nD τ sig (Elt F) Λ₀ .tc) PUnit} {Q : PUnit → sProp 𝕄} :
    iprop(cellInv ER (talkRd X) (K (barCell (peer c (away c k)))) (barCell (peer c (away c k))) ∗ owes (c : Thread nD τ) (O + barDue c k) W
        ∗ dutyTok ER (barCell (peer c (away c k))) 0 (zOf c) ∗ (∃ f, slotPts fullShare c (away c k) f) ∗ reached ER (recvCell c (away c k)) 0
        ∗ reached ER (barCell (peer c (away c k))) 0)
      ⊢ iprop((owes (c : Thread nD τ) O W -∗ wp frame (wpE (defs₀ (F := F)) 𝒱₀ c none) Set.univ (kk ⟨⟩) Q)
        -∗ wp frame (wpE (defs₀ (F := F)) 𝒱₀ c none) Set.univ (semSignalWord n barS 1#32 >>= kk) Q) := by
  subst hn
  iintro ⟨HI, HO, Ht, Hs, HrV, HrB⟩ Hk
  unfold semSignalWord
  simp only [Prog.lift, Prog.bind_op, Prog.bind_ret, Prog.pure_eq_ret, Prog.bind_assoc]
  iapply (Rounds.wp_signal 𝒱₀ ER (talkRd X) (c : Thread nD τ) none (dst := (peer c (away c k) : Thread nD τ)) (sem := barS) (r := 0) (d := zOf c)
      (κ := K (barCell (peer c (away c k))))
      (by rw [duties_bar, zOf_peer]; exact Finset.mem_erase.mpr ⟨fun h => away_ne c k h.symm, Finset.mem_univ _⟩)
      (by rfl) () O rfl) $$ [HI HO Ht Hs HrV HrB]
  · isplitl [HI]; · iexact HI
    isplitl [HO]; · iexact HO
    isplitl [Ht]; · iexact Ht
    isplitl [Hs HrV]
    · rw [payload_bar]; unfold barPay
      rw [peer_peer, peer_self, zOf_peer]
      isplitl [Hs]; · iexact Hs
      iexact HrV
    iexact HrB
  iintro HO
  iapply Hk; iexact HO

set_option maxHeartbeats 4000000 in
/-- The whole body on a device. -/
theorem bodyRun (c : Dev nD) (W : Waits sig Unit) (Q : PUnit → sProp 𝕄) :
    iprop(bodyPre X K c W ∗ (bodyPost X c -∗ Q ⟨⟩)) ⊢ wp frame (wpE (defs₀ (F := F)) 𝒱₀ c none) Set.univ (bodyProg (F := F)) Q := by
  unfold bodyProg
  simp only [wp_deviceId, Prog.lift, Prog.bind_op, Prog.bind_ret, Prog.pure_eq_ret, Prog.bind_assoc]
  unfold bodyPre opened credits O₀
  simp only [bigSep_three, bigSep_places c]
  unfold payToks
  iintro ⟨⟨⟨#HI, HaB, HaS, ⟨⟨HaVo, #HrVo⟩, ⟨HaV0, #HrV0⟩, ⟨HaV1, #HrV1⟩, ⟨HaV2, #HrV2⟩⟩, #HrB,
      ⟨⟨HtB0, HtV0, HtS0⟩, ⟨HtB1, HtV1, HtS1⟩, ⟨HtB2, HtV2, HtS2⟩⟩⟩, ⟨HcB, HcV⟩, #Hlev, ⟨%f, Hs⟩, Hi, Hbt, Hlen, Ho, HO⟩, Hk⟩
  ihave Hs4 := (Entails.of_eq (comm_slots c fullShare f)) $$ Hs
  icases Hs4 with ⟨Hso, Hs0, Hs1, Hs2⟩
  iapply (wp_signal_peer X K c _ 0 (dev1_eq c) (O₃ c + barDue c 2 + barDue c 1) W) $$ [HO HtB0 Hs0]
  · isplitr; · iapply (inv_bar X K (peer c (away c 0))); iexact HI
    isplitl [HO]; · iexact HO
    isplitl [HtB0]; · iexact HtB0
    isplitl [Hs0]; · iexists f; iexact Hs0
    isplitr; · iexact HrV0
    iapply (fam_elim (fun c' : Dev nD => reached ER (barCell c') 0) (peer c (away c 0))); iexact HrB
  iintro HO
  iapply (wp_signal_peer X K c _ 1 (dev2_eq c) (O₃ c + barDue c 2) W) $$ [HO HtB1 Hs1]
  · isplitr; · iapply (inv_bar X K (peer c (away c 1))); iexact HI
    isplitl [HO]; · iexact HO
    isplitl [HtB1]; · iexact HtB1
    isplitl [Hs1]; · iexists f; iexact Hs1
    isplitr; · iexact HrV1
    iapply (fam_elim (fun c' : Dev nD => reached ER (barCell c') 0) (peer c (away c 1))); iexact HrB
  iintro HO
  iapply (wp_signal_peer X K c _ 2 (dev3_eq c) (O₃ c) W) $$ [HO HtB2 Hs2]
  · isplitr; · iapply (inv_bar X K (peer c (away c 2))); iexact HI
    isplitl [HO]; · iexact HO
    isplitl [HtB2]; · iexact HtB2
    isplitl [Hs2]; · iexists f; iexact Hs2
    isplitr; · iexact HrV2
    iapply (fam_elim (fun c' : Dev nD => reached ER (barCell c') 0) (peer c (away c 2))); iexact HrB
  iintro HO
  -- the wait for the three peers, whose slots at the own place come with it
  unfold semWaitWord
  simp only [Prog.lift, Prog.bind_op, Prog.bind_ret, Prog.pure_eq_ret, Prog.bind_assoc]
  iapply (Rounds.wp_wait_rest_token 𝒱₀ ER (talkRd X) (c : Thread nD τ) none (κ := K (barCell c))
      (wpE_semWait_eq 𝒱₀ (c : Thread nD τ) none Set.univ) (Set.mem_univ _) () (O := O₃ c) (W := W) (R := 0) (m := 0) (T := ∅)
      ((Nat.zero_add 3).trans (expect_bar X c).symm)) $$ [HcB HO HaB]
  · isplitr; · iapply (inv_bar X K c); iexact HI
    isplitl [HcB]; · iexact HcB
    isplitl [HO]; · iexact HO
    isplitr; · iapply (mayWait_bar c); iexact Hlev
    iexact HaB
  iintro ⟨HO, HaB, -, Hpay⟩
  ihave Hp := (Entails.of_eq (rest_bar X c)) $$ Hpay
  imod (close_one X (K (barCell c)) (barCell c)) $$ [HaB] with HzB
  · isplitr; · iapply (inv_bar X K c); iexact HI
    iexact HaB
  iapply (wp_load 𝒱₀ (c : Thread nD τ) none Set.univ (m := lenM) (Finset.subset_univ _)) $$ Hlen; iintro Hlen
  iapply (wp_load 𝒱₀ (c : Thread nD τ) none Set.univ (m := btM) (Finset.subset_univ _)) $$ Hbt; iintro Hbt
  iapply (wp_allHeads X c (tailProg c) Q)
  isplitl [Hso Hi]
  · isplitl [Hso]; · iexists f; iexact Hso
    iexact Hi
  iintro ⟨Hso, Hi⟩
  iapply (wp_tail X K c (insert (SemLoc.reg barS, ()) W) Q)
  isplitl [HaS HaVo HaV0 HaV1 HaV2 HtV0 HtS0 HtV1 HtS1 HtV2 HtS2 HcV Hp Hso Ho HO]
  · unfold tailPre
    simp only [bigSep_three, bigSep_places c]
    isplitr; · iexact HI
    isplitl [HaS]; · iexact HaS
    isplitl [HaVo HaV0 HaV1 HaV2]
    · isplitl [HaVo]; · isplitl [HaVo]; · iexact HaVo
                        iexact HrVo
      isplitl [HaV0]; · isplitl [HaV0]; · iexact HaV0
                        iexact HrV0
      isplitl [HaV1]; · isplitl [HaV1]; · iexact HaV1
                        iexact HrV1
      isplitl [HaV2]; · iexact HaV2
      iexact HrV2
    isplitl [HtV0 HtS0 HtV1 HtS1 HtV2 HtS2]
    · isplitl [HtV0 HtS0]; · isplitl [HtV0] <;> iassumption
      isplitl [HtV1 HtS1]; · isplitl [HtV1] <;> iassumption
      isplitl [HtV2] <;> iassumption
    isplitl [HcV]; · iexact HcV
    isplitl [Hp]; · iexact Hp
    isplitl [Hso]; · iexact Hso
    isplitl [Ho]; · iexact Ho
    iexact HO
  unfold tailPost
  iintro ⟨Hz, Hall, Ho, HO⟩
  iapply Hk
  unfold bodyPost
  isplitl [HzB]; · iexact HzB
  isplitl [Hz]; · iexact Hz
  isplitl [Hall]; · iexists _; iexact Hall
  isplitl [Hi]; · iexact Hi
  isplitl [Hbt]; · iexact Hbt
  isplitl [Hlen]; · iexact Hlen
  isplitl [Ho]; · iexact Ho
  iexact HO

end Cert.KernelIdeal.Paged

end
-- ==== Proof.KernelIdeal.Launch.lean ====
/- The launch: the windows' contents, the region as one that talks, the protocol's cells funded at the start, and the run of
   the whole program on the sixteen devices. -/
module

public import proofs.«01_k».proof.Proof.KernelIdeal.Body
public import proofs.«01_k».proof.Proof.Gen.KernelIdeal.Frame
public import Idealize.ShloMosaic.Lib.Pipeline.RegionTalk
public import Idealize.ShloMosaic.Lib.Pipeline.ValueKit.Geometry
public import Idealize.ShloMosaic.Harness.Basic

@[expose] public section

noncomputable section

namespace Cert.KernelIdeal.Paged

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the region stages -/

/-- Each device's operands when the region is entered. -/
def staged (c : Dev nD) : Staged F where
  q := V m c main_v1
  k := V m c main_v2
  v := V m c main_v3
  bt := V m c main_arg3
  lens := V m c main_v4

theorem iblk_q (c : Dev nD) : iblk m c 0 t0_0 = (staged m c).q := View.ld_unit_zero (Val := Elt F) (funext fun a => Nat.zero_mul _) _ (V m c main_v1)
theorem iblk_k (c : Dev nD) : iblk m c 1 t0_0 = (staged m c).k := View.ld_unit_zero (Val := Elt F) (funext fun a => Nat.zero_mul _) _ (V m c main_v2)
theorem iblk_v (c : Dev nD) : iblk m c 2 t0_0 = (staged m c).v := View.ld_unit_zero (Val := Elt F) (funext fun a => Nat.zero_mul _) _ (V m c main_v3)
theorem iblk_bt (c : Dev nD) : iblk m c 3 t0_0 = (staged m c).bt := View.ld_unit_zero (Val := Elt F) (funext fun a => Nat.zero_mul _) _ (V m c main_arg3)
theorem iblk_lens (c : Dev nD) : iblk m c 4 t0_0 = (staged m c).lens := View.ld_unit_zero (Val := Elt F) (funext fun a => Nat.zero_mul _) _ (V m c main_v4)
/-- The result's block is the whole result array. -/
theorem blk_out (f : S16x16x64.Idx → Elt F .f32) : ((cfg0.win 5).blk t0_0).view.read (Elt F) f = f := View.ld_unit_zero (Val := Elt F) (funext fun a => Nat.zero_mul _) _ f

/-! ## The region's proof data -/

/-- A device's generator register and its gather buffer, at any contents. -/
def scratch (c : Dev nD) : sProp 𝕄 := iprop((∃ f : Buf (Elt F) ((c : Thread nD τ).loc cc0_scratch0), stg c cc0_scratch0 f) ∗ ∃ r, prngReg c r)

/-- What enters the region's invariant beside those. -/
def entering (c : Dev nD) : sProp 𝕄 := iprop((∃ K, opened (staged m) K c) ∗ credits c ∗ levAts L lv)

/-- The body's own counters at zero. -/
def ownZero (c : Dev nD) : sProp 𝕄 :=
  iprop((bigSep Finset.univ fun k : Fin 3 => semVal (sendCell c k) 0) ∗ bigSep Finset.univ fun z : Fin 4 => semVal (recvCell c z) 0)

/-- The region's proof data: the arrays as found; each operand's block left as staged, the result's block at the combination;
    before the one point the opened protocol, after it every counter at zero. -/
def dat0 (c : Dev nD) : Dat τ (Elt F) Unit ℕ UU ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t | ⟨4, _⟩ => iblk m c 4 t
    | ⟨5, _⟩ => outOf (staged m) c
    | ⟨_ + 6, h⟩ => absurd h (Nat.not_lt.2 (Nat.le_add_left _ _))
  Φ t := if t.val = 0 then iprop(scratch c ∗ entering m c) else iprop(scratch c ∗ ownZero c ∗ semVal (barCell c) 0)
  q _ := fullShare
  owed t := if t.val = 0 then O₀ c else 0

theorem Φ_first (c : Dev nD) : (dat0 m c).Φ t0_0.castSucc = iprop(scratch c ∗ entering m c) := by dsimp only [dat0]; exact if_pos rfl
theorem Φ_last (c : Dev nD) : (dat0 m c).Φ t0_0.succ = iprop(scratch c ∗ ownZero c ∗ semVal (barCell c) 0) := by dsimp only [dat0]; exact if_neg (by decide)
theorem owed_first (c : Dev nD) : (dat0 m c).owed t0_0.castSucc = O₀ c := by dsimp only [dat0]; exact if_pos rfl
theorem owed_last (c : Dev nD) : (dat0 m c).owed t0_0.succ = 0 := by dsimp only [dat0]; exact if_neg (by decide)

theorem before_q (c : Dev nD) (d) : (dat0 m c).before 0 t0_0 d = (staged m c).q := by
  unfold Dat.before; rw [if_pos (fetch0_0 _)]; exact iblk_q m c
theorem before_k (c : Dev nD) (d) : (dat0 m c).before 1 t0_0 d = (staged m c).k := by
  unfold Dat.before; rw [if_pos (fetch0_1 _)]; exact iblk_k m c
theorem before_v (c : Dev nD) (d) : (dat0 m c).before 2 t0_0 d = (staged m c).v := by
  unfold Dat.before; rw [if_pos (fetch0_2 _)]; exact iblk_v m c
theorem before_bt (c : Dev nD) (d) : (dat0 m c).before 3 t0_0 d = (staged m c).bt := by
  unfold Dat.before; rw [if_pos (fetch0_3 _)]; exact iblk_bt m c
theorem before_lens (c : Dev nD) (d) : (dat0 m c).before 4 t0_0 d = (staged m c).lens := by
  unfold Dat.before; rw [if_pos (fetch0_4 _)]; exact iblk_lens m c

theorem owes_in {c : Dev nD} (dat : Dat τ (Elt F) Unit ℕ UU ℕ cfg0 c) (t : Fin (cfg0.N + 1)) (O : CellTallies nD τ sig Unit) (h : dat.owed t = O)
    (hr : dat.recorded t = Set.univ) : iprop(∃ W, owes (c : Thread nD τ) O W) ⊢ (dat.owesAt () t : sProp 𝕄) := by
  unfold Dat.owesAt Pipeline.owesWithin Dat.bound; rw [h, hr]
  iintro ⟨%W, HO⟩; iexists W; isplitr; · ipureintro; exact fun _ _ => Or.inl trivial
  iexact HO
theorem owes_out {c : Dev nD} (dat : Dat τ (Elt F) Unit ℕ UU ℕ cfg0 c) (t : Fin (cfg0.N + 1)) (O : CellTallies nD τ sig Unit) (h : dat.owed t = O) :
    (dat.owesAt () t : sProp 𝕄) ⊢ iprop(∃ W, owes (c : Thread nD τ) O W) := by
  unfold Dat.owesAt Pipeline.owesWithin; rw [h]
  iintro ⟨%W, -, HO⟩; iexists W; iexact HO

theorem owns_whole (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ stg c b g) := by
  unfold owns; simp only [Memref.view_whole, View.read_whole, View.set_whole]

/-- The printed body, from the start of `bodyRun`. -/
theorem printedRun (X : Dev nD → Staged F) (K : GSem nD τ sig → ℕ) (c : Dev nD) (W : Waits sig Unit) (Q : PUnit → sProp 𝕄) :
    iprop(bodyPre X K c W ∗ (bodyPost X c -∗ Q ⟨⟩)) ⊢ wp frame (wpE (defs₀ (F := F)) 𝒱₀ c none) Set.univ
      (cc0__body (F := F) qM (Memref.isWhole_whole _) kM (Memref.isWhole_whole _) vM (Memref.isWhole_whole _) btM (Memref.isWhole_whole _)
        lenM (Memref.isWhole_whole _) oM (Memref.isWhole_whole _) commM (Memref.isWhole_whole _) cc0_scratch1 cc0_scratch2) Q := by
  rw [body_eq]; exact bodyRun X K c W Q

set_option maxRecDepth 8000 in
/-- The library's obligation for the body on device `c`. -/
theorem body0 (c : Dev nD) : BodyObligation (dat0 m c) (defs₀ (F := F)) 𝒱₀ () Set.univ := fun t => by
  obtain rfl := fin_N0 t
  rw [bigSep_W0, bigSep_W0]
  simp only [owns_whole]
  rw [Φ_first, Φ_last]
  unfold entering scratch
  iintro ⟨⟨⟨Hc, Hr⟩, ⟨%K, Hg⟩, Hcr, Hlev⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  rw [before_q] at h0
  rw [before_k] at h1
  rw [before_v] at h2
  rw [before_bt] at h3
  rw [before_lens] at h4
  subst h0 h1 h2 h3 h4
  ihave HO' := (owes_out (dat0 m c) _ (O₀ c) (owed_first m c)) $$ HO
  icases HO' with ⟨%W, HO⟩
  iapply (printedRun (staged m) K c W _)
  isplitl [Hc Hg Hcr Hlev H0 H1 H2 H3 H4 H5 HO]
  · unfold bodyPre ins
    isplitl [Hg]; · iexact Hg
    isplitl [Hcr]; · iexact Hcr
    isplitl [Hlev]; · iexact Hlev
    isplitl [Hc]; · iexact Hc
    isplitl [H0 H1 H2]
    · isplitl [H0]; · iexact H0
      isplitl [H1]; · iexact H1
      iexact H2
    isplitl [H3]; · iexact H3
    isplitl [H4]; · iexact H4
    isplitl [H5]; · iexists f5; iexact H5
    iexact HO
  unfold bodyPost ins
  iintro ⟨Hb, Hz, Hc, ⟨H0, H1, H2⟩, H3, H4, H5, HO⟩
  isplitl [Hb Hz Hc Hr]
  · isplitl [Hc Hr]
    · isplitl [Hc]; · iexact Hc
      iexact Hr
    isplitl [Hz]; · unfold ownZero; iexact Hz
    iexact Hb
  isplitl [HO]; · iapply (owes_in (dat0 m c) t0_0.succ 0 (owed_last m c) rfl); iexact HO
  isplitl [H0]; · iexists _; isplitr; swap; (· iexact H0); ipureintro; exact (iblk_q m c).symm
  isplitl [H1]; · iexists _; isplitr; swap; (· iexact H1); ipureintro; exact (iblk_k m c).symm
  isplitl [H2]; · iexists _; isplitr; swap; (· iexact H2); ipureintro; exact (iblk_v m c).symm
  isplitl [H3]; · iexists _; isplitr; swap; (· iexact H3); ipureintro; exact (iblk_bt m c).symm
  isplitl [H4]; · iexists _; isplitr; swap; (· iexact H4); ipureintro; exact (iblk_lens m c).symm
  iexists _; isplitr; swap; (· iexact H5); ipureintro; rfl

end Cert.KernelIdeal.Paged

end
-- ==== Proof.KernelIdeal.Fund.lean ====
/- The start of the launch: every cell's invariant allocated, the barrier cells funded from their counters and the body's own
   cells dormant, every duty's token given to the device that pays it, and the credits each device waits with. -/
module

public import proofs.«01_k».proof.Proof.KernelIdeal.Launch

@[expose] public section

noncomputable section

namespace Cert.KernelIdeal.Paged

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]

local notation "𝕄" => MT nD τ sig Unit (Elt F) ℕ UU ℕ

variable (X : Dev nD → Staged F)

/-! ## The cells and the tokens -/

theorem own_inj : Function.Injective own := by decide
theorem own_ne_bar : ∀ j : Fin 3 ⊕ Fin 4, own j ≠ .reg barS := by decide

def barEmb : Dev nD ↪ GSem nD τ sig := ⟨fun c => barCell c, fun _ _ h => congrArg (fun g : GSem nD τ sig => g.1.1) h⟩
def ownEmb : Dev nD × (Fin 3 ⊕ Fin 4) ↪ GSem nD τ sig :=
  ⟨fun cj => ((cj.1 : Thread nD τ), own cj.2), fun _ _ h => Prod.ext (congrArg (fun g : GSem nD τ sig => g.1.1) h) (own_inj (congrArg Prod.snd h))⟩

abbrev barCells : Finset (GSem nD τ sig) := Finset.univ.map barEmb
abbrev ownCells : Finset (GSem nD τ sig) := Finset.univ.map ownEmb

/-- The kinds of duty: the barrier unit, the slot's arrival, the slot's departure. -/
def tokAt (c : Dev nD) (k : Fin 3) : Fin 3 → GSem nD τ sig × ℕ × Fin 4
  | 0 => (barCell (peer c (away c k)), 0, zOf c)
  | 1 => (recvCell (peer c (away c k)) (zOf c), 0, zOf c)
  | 2 => (sendCell c k, 0, zOf c)

/-- A duty's token as device, semaphore and place, to compare by computation. -/
def tokKey (c : Dev nD) (k : Fin 3) : Fin 3 → Dev nD × SemLoc sig × Fin 4
  | 0 => (peer c (away c k), .reg barS, zOf c)
  | 1 => (peer c (away c k), .dma (recvS (zOf c)), zOf c)
  | 2 => (c, .dma (sendS k), zOf c)

theorem tokKey_of (c : Dev nD) (k i : Fin 3) : tokKey c k i = ((tokAt c k i).1.1.1, (tokAt c k i).1.2, (tokAt c k i).2.2) := by fin_cases i <;> rfl

/-- Who pays a duty can be read off it: the place is the payer's, the cell's device is in the payer's group. -/
theorem tok_payer (c : Dev nD) (k i : Fin 3) : peer (tokKey c k i).1 (tokKey c k i).2.2 = c := by
  fin_cases i
  · show peer (peer c (away c k)) (zOf c) = c; rw [peer_peer, peer_self]
  · show peer (peer c (away c k)) (zOf c) = c; rw [peer_peer, peer_self]
  · exact peer_self c

theorem tokKey_inj (c : Dev nD) : Function.Injective fun ki : Fin 3 × Fin 3 => tokKey c ki.1 ki.2 := by revert c; decide +kernel

def tokEmb : Dev nD × (Fin 3 × Fin 3) ↪ GSem nD τ sig × ℕ × Fin 4 :=
  ⟨fun t => tokAt t.1 t.2.1 t.2.2, fun a b h => by
    have e : tokKey a.1 a.2.1 a.2.2 = tokKey b.1 b.2.1 b.2.2 := by
      rw [tokKey_of, tokKey_of]; exact congrArg (fun t : GSem nD τ sig × ℕ × Fin 4 => (t.1.1.1, t.1.2, t.2.2)) h
    have ec : a.1 = b.1 := (tok_payer a.1 a.2.1 a.2.2).symm.trans ((congrArg (fun t : Dev nD × SemLoc sig × Fin 4 => peer t.1 t.2.2) e).trans (tok_payer b.1 b.2.1 b.2.2))
    obtain ⟨c, x⟩ := a; obtain ⟨c', y⟩ := b
    cases ec
    exact congrArg (Prod.mk c) (tokKey_inj c e)⟩

abbrev talkToks : Finset (GSem nD τ sig × ℕ × Fin 4) := Finset.univ.map tokEmb

theorem cells_disjoint : Disjoint (barCells : Finset (GSem nD τ sig)) ownCells := by
  rw [Finset.disjoint_left]
  rintro g h₁ h₂
  obtain ⟨c, -, rfl⟩ := Finset.mem_map.mp h₁
  obtain ⟨cj, -, h⟩ := Finset.mem_map.mp h₂
  exact own_ne_bar cj.2 (congrArg Prod.snd h)

/-- All tokens, device by device: each device holds those it pays with. -/
theorem toks_dealt : bigSep talkToks (fun x => (dutyTok ER x.1 x.2.1 x.2.2 : sProp 𝕄)) = bigSep Finset.univ fun c : Dev nD => bigSep Finset.univ (payToks c) := by
  rw [bigSep_map, bigSep_univ_prod]
  refine bigSep_congr fun c _ => ?_
  rw [bigSep_univ_prod]
  refine bigSep_congr fun k _ => ?_
  rw [bigSep_three]
  rfl

/-- All invariants under one map of names. -/
theorem invs_of (K : GSem nD τ sig → ℕ) : bigSep (barCells ∪ ownCells) (fun g => (cellInv ER (talkRd X) (K g) g : sProp 𝕄)) = invs X K := by
  rw [bigSep_union cells_disjoint, bigSep_map, bigSep_map]; rfl

/-! ## The credits -/

/-- What a device owes a barrier cell and a receive cell, as counts. -/
def owesBar (d c : Dev nD) : ℕ := ∑ k : Fin 3, if c = peer d (away d k) then 1 else 0
def owesRecv (d c : Dev nD) (z : Fin 4) : ℕ := ∑ k : Fin 3, if c = peer d (away d k) ∧ z = zOf d then 1 else 0

theorem all_bar : ∀ c : Dev nD, ∑ d : Dev nD, owesBar d c = 3 := by decide +kernel
theorem all_recv : ∀ (c : Dev nD) (k : Fin 3), ∑ d : Dev nD, owesRecv d c (away c k) = 1 := by decide +kernel

theorem barDue_bar (d c : Dev nD) (k : Fin 3) : barDue d k (barCell c) () = if c = peer d (away d k) then 1 else 0 := by
  unfold barDue; rw [tallyAt_apply]
  by_cases h : c = peer d (away d k)
  · rw [if_pos ⟨by rw [h], rfl⟩, if_pos h]
  · rw [if_neg (fun e => h (congrArg (fun g : GSem nD τ sig => g.1.1) e.1)), if_neg h]
theorem recvDue_bar (d c : Dev nD) (k : Fin 3) : recvDue d k (barCell c) () = 0 := by
  unfold recvDue; rw [tallyAt_apply, if_neg (fun e => by cases congrArg Prod.snd e.1)]
theorem barDue_recv (d c : Dev nD) (z : Fin 4) (k : Fin 3) : barDue d k (recvCell c z) () = 0 := by
  unfold barDue; rw [tallyAt_apply, if_neg (fun e => by cases congrArg Prod.snd e.1)]
theorem recvS_inj {z z' : Fin 4} (h : recvS z = recvS z') : z = z' := by
  have := congrArg Fin.val h; simp only [recvS] at this; exact Fin.ext (by omega)
theorem recvDue_recv (d c : Dev nD) (z : Fin 4) (k : Fin 3) : recvDue d k (recvCell c z) () = (if c = peer d (away d k) ∧ z = zOf d then 1 else 0) * N := by
  unfold recvDue; rw [tallyAt_apply]
  by_cases h : c = peer d (away d k) ∧ z = zOf d
  · rw [if_pos ⟨by rw [h.1, h.2], rfl⟩, if_pos h, Nat.one_mul]
  · rw [if_neg (fun e => h ⟨congrArg (fun g : GSem nD τ sig => g.1.1) e.1, recvS_inj (SemLoc.dma.inj (congrArg Prod.snd e.1))⟩), if_neg h, Nat.zero_mul]

theorem O₀_bar (d c : Dev nD) : O₀ d (barCell c) () = owesBar d c := by
  unfold O₀ O₃ owesBar
  simp only [Pi.add_apply, Finsupp.add_apply, barDue_bar, recvDue_bar, Fin.sum_univ_three, Pi.zero_apply, Finsupp.zero_apply]
  omega
theorem O₀_recv (d c : Dev nD) (z : Fin 4) : O₀ d (recvCell c z) () = owesRecv d c z * N := by
  unfold O₀ O₃ owesRecv
  simp only [Pi.add_apply, Finsupp.add_apply, barDue_recv, recvDue_recv, Fin.sum_univ_three, Pi.zero_apply, Finsupp.zero_apply, Nat.add_mul]
  omega

theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => O₀_bar d c, all_bar]
theorem credit_recv (c : Dev nD) (k : Fin 3) :
    tallyOn (recvCell c (away c k)) (launchCredit (Pipeline.owing O₀) 0 (recvCell c (away c k))) = (tallyAt (recvCell c (away c k)) () N : CellTallies nD τ sig Unit) := by
  unfold tallyAt; refine congrArg _ (Finsupp.ext fun u => ?_); cases u
  rw [Pipeline.launchCredit_owing, Finsupp.single_eq_same, Finset.sum_congr rfl fun d _ => O₀_recv d c _, ← Finset.sum_mul, all_recv, Nat.one_mul]

/-- The semaphores on which a device's three arrivals come. -/
def awayEmb (c : Dev nD) : Fin 3 ↪ SemLoc sig := ⟨fun k => .dma (recvS (away c k)), fun k k' h => away_inj c (recvS_inj (SemLoc.dma.inj h))⟩

/-- The launch's credits of a device include those its body waits with. -/
theorem credits_of (c : Dev nD) : (Pipeline.launchCred O₀ c : sProp 𝕄) ⊢ credits c := by
  unfold Pipeline.launchCred credits
  rw [bigSep_univ_at _ (SemLoc.reg barS), credit_bar]
  refine sep_mono_right ?_
  refine (bigSep_subset (t := Finset.univ.map (awayEmb c))
    (fun sm h => by
      obtain ⟨k, -, rfl⟩ := Finset.mem_map.mp h
      exact Finset.mem_erase.mpr ⟨fun e => (show SemLoc.dma (recvS (away c k)) ≠ SemLoc.reg barS from fun e => by cases e) e, Finset.mem_univ _⟩)).trans ?_
  rw [bigSep_map]
  exact Entails.of_eq (bigSep_congr fun k _ => congrArg cred (credit_recv c k))

/-! ## The state dealt at the start -/

/-- What a device carries to the region: the records, its positions and rights to open, the tokens it pays with. -/
def ghost (K : GSem nD τ sig → ℕ) (c : Dev nD) : sProp 𝕄 :=
  iprop((invs X K ∗ bigSep Finset.univ fun c' : Dev nD => reached ER (barCell c') 0)
    ∗ atPos ER (barCell c) 0 ∅ 0 ∗ (bigSep Finset.univ fun j => openTok ER ((c : Thread nD τ), own j)) ∗ bigSep Finset.univ (payToks c))

/-- The region's entry: the dormant cells opened with their counters. -/
theorem open_own (c : Dev nD) (K : GSem nD τ sig → ℕ) :
    iprop(ghost X K c ∗ Pipeline.ownSems0 own c) ⊢ (|={Set.univ}=> opened X K c : sProp 𝕄) := by
  unfold ghost Pipeline.ownSems0
  iintro ⟨⟨⟨#HI, #HR⟩, Ha, Ho, Ht⟩, Hv⟩
  have h1 : iprop(invs X K ∗ bigSep Finset.univ fun j => iprop(openTok ER ((c : Thread nD τ), own j) ∗ semVal ((c : Thread nD τ), own j) 0))
      ⊢ (bigSep Finset.univ fun j => iprop(|={Set.univ}=> (atPos ER ((c : Thread nD τ), own j) 0 ∅ 0 ∗ reached ER ((c : Thread nD τ), own j) 0)) : sProp 𝕄) :=
    bigSep_with_persistent fun j _ => by
      iintro ⟨#HI, Ho, Hv⟩
      iapply (Rounds.cell_open ER (talkRd X) (g := ((c : Thread nD τ), own j)) (Set.mem_univ (K ((c : Thread nD τ), own j))))
      isplitr
      · unfold invs; icases HI with ⟨-, HI⟩
        iapply (fam_elim (fun ck : Dev nD × (Fin 3 ⊕ Fin 4) => cellInv ER (talkRd X) (K ((ck.1 : Thread nD τ), own ck.2)) ((ck.1 : Thread nD τ), own ck.2)) (c, j)); iexact HI
      isplitl [Ho] <;> iassumption
  ihave H := h1 $$ [Ho Hv]
  · isplitr; · iexact HI
    iapply bigSep_pair; isplitl [Ho] <;> iassumption
  ihave H := (bigSep_fupd (Mask := Set ℕ) _ _) $$ H
  imod H
  imodintro
  unfold opened
  have h2 : (bigSep Finset.univ fun j => iprop(atPos ER ((c : Thread nD τ), own j) 0 ∅ 0 ∗ reached ER ((c : Thread nD τ), own j) 0) : sProp 𝕄)
      ⊢ iprop((bigSep Finset.univ fun k : Fin 3 => iprop(atPos ER (sendCell c k) 0 ∅ 0 ∗ reached ER (sendCell c k) 0))
        ∗ bigSep Finset.univ fun z : Fin 4 => iprop(atPos ER (recvCell c z) 0 ∅ 0 ∗ reached ER (recvCell c z) 0)) := Entails.of_eq (BI.bigSep_univ_sum _)
  ihave H := h2 $$ H
  icases H with ⟨Hs, Hr⟩
  isplitr; · iexact HI
  isplitl [Ha]; · iexact Ha
  isplitl [Hs]; · iexact Hs
  isplitl [Hr]; · iexact Hr
  isplitr; · iexact HR
  iexact Ht

/-- The protocol's launch element. -/
def fundElt : UB := launchOf barCells ownCells talkToks

/-- The funding step: from the barrier counters and the launch element, every device's state. -/
theorem fund : iprop((bigSep Finset.univ fun c : Dev nD => semVal (barCell c) 0) ∗ BI.own (ER fundElt))
    ⊢ (|={Set.univ}=> bigSep Finset.univ fun c : Dev nD => iprop(∃ K, ghost X K c) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hop : bigSep ownCells (fun g => (openTok ER g : sProp 𝕄)) ⊢ bigSep Finset.univ (fun c : Dev nD => bigSep Finset.univ fun j => (openTok ER ((c : Thread nD τ), own j) : sProp 𝕄)) :=
    Entails.of_eq (by rw [bigSep_map, bigSep_univ_prod]; rfl)
  iintro ⟨Hv, Hu⟩
  imod (Rounds.fund_launch ER (talkRd X) cells_disjoint (fun g _ h => h) talkToks) $$ [Hv Hu] with ⟨%κ, -, #Hinv, #Hr, Hat, Hopen, Htok⟩
  · isplitl [Hv]
    · iapply hv $$ Hv
    · unfold fundElt; iexact Hu
  imodintro
  iapply (bigSep_with_persistent (R := iprop(invs X κ ∗ bigSep Finset.univ fun c' : Dev nD => reached ER (barCell c') 0))
    (Φ := fun c => iprop(atPos ER (barCell c) 0 ∅ 0 ∗ (bigSep Finset.univ fun j => openTok ER ((c : Thread nD τ), own j)) ∗ bigSep Finset.univ (payToks c)))
    fun c _ => by iintro H; iexists κ; unfold ghost; iexact H)
  isplitr
  · isplitr; · iapply (Entails.of_eq (invs_of X κ)); iexact Hinv
    iapply hre; iexact Hr
  iapply bigSep_pair; isplitl [Hat]; · iapply hat $$ Hat
  iapply bigSep_pair; isplitl [Hopen]; · iapply hop $$ Hopen
  iapply (Entails.of_eq (toks_dealt (F := F))) $$ Htok

end Cert.KernelIdeal.Paged

end
-- ==== Proof.KernelIdeal.Run.lean ====
/- The run: the region as one that talks, the host's reshapes around it, and the whole program on the sixteen devices. -/
module

public import proofs.«01_k».proof.Proof.KernelIdeal.Fund
public import Idealize.ShloMosaic.Lib.Pipeline.CollectiveSegs

@[expose] public section

noncomputable section

namespace Cert.KernelIdeal.Paged

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun | 0 => dat0 m

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own_facts : Pipeline.OwnSemFacts spec0 own := by decide

/-! ## The contents around the region -/

/-- After the region: the windows' arrays as it leaves them. -/
def Vend (c : Dev nD) : Valuation τ sig (Elt F) := Pipeline.withArrays spec0 c (V0 m c) (fun w => (dat0 m c).arrAt w cfg0.N)
/-- At the end of the program. -/
def Vfin (c : Dev nD) : Valuation τ sig (Elt F) := StableHlo.after hostOps1 (Vend m c)

theorem arrRef_inj : Function.Injective (Pipeline.arrRef spec0) := winFacts0.arr_inj

theorem Vend_arr (c : Dev nD) (w : Fin 6) : Vend m c (Proc.devRef .tc (Pipeline.arrRef spec0 w)) = (dat0 m c).arrAt w cfg0.N :=
  Pipeline.withArrays_arr spec0 arrRef_inj c _ _ w

/-- The result array after the region: the combination. -/
theorem result_arr (c : Dev nD) : (dat0 m c).arrAt 5 cfg0.N = outOf (staged m) c := by
  refine (dat0 m c).arrAt_eq_of_covers 5 (outOf (staged m) c) (by decide +kernel) fun t _ y => ?_
  obtain rfl := fin_N0 t
  exact (congrFun (blk_out (outOf (staged m) c)) y).symm

theorem Vend_out (c : Dev nD) : Vend m c main_v5 = outOf (staged m) c := (Vend_arr m c 5).trans (result_arr m c)

/-! ## The region -/

def Tin (c : Dev nD) : sProp 𝕄 := iprop((∃ K, ghost (staged m) K c) ∗ credits c)

theorem region_open (c : Dev nD) : iprop(Tin m c ∗ Pipeline.ownSems0 own c ∗ levAts L lv) ⊢ (|={Set.univ}=> entering m c : sProp 𝕄) := by
  unfold Tin entering
  iintro ⟨⟨⟨%K, Hg⟩, Hc⟩, Hs, Hl⟩
  imod (open_own (staged m) c K) $$ [Hg Hs] with Ho
  · isplitl [Hg] <;> iassumption
  imodintro
  isplitl [Ho]; · iexists K; iexact Ho
  isplitl [Hc] <;> iassumption

theorem held_none (c : Dev nD) (W : Valuation τ sig (Elt F)) : (StableHlo.held (c.tc : Thread nD τ) ∅ W : sProp 𝕄) = BI.emp := by
  unfold StableHlo.held; exact BI.bigSep_empty

theorem ownSems_eq (c : Dev nD) : (Pipeline.ownSems0 own c : sProp 𝕄) = ownZero c := by
  unfold Pipeline.ownSems0 ownZero; exact BI.bigSep_univ_sum _

theorem region_in (c : Dev nD) : iprop(Pipeline.scopedRest (Pipeline.pin (pcfgs (F := F)) adm 0).spec c ∗ (∃ r, prngReg c r)
    ∗ StableHlo.held (c.tc : Thread nD τ) ∅ (V0 m c) ∗ entering m c) ⊢ (pdats m 0 c).Φ 0 := by
  rw [show (pdats m 0 c).Φ 0 = iprop(scratch c ∗ entering m c) from Φ_first m c, show (Pipeline.scopedRest (Pipeline.pin (pcfgs (F := F)) adm 0).spec c : sProp 𝕄) = _ from scopedRest0_eq c]
  unfold scratch
  iintro ⟨Hs, Hp, -, HX⟩
  isplitr [HX]
  · isplitl [Hs]; · iexact Hs
    iexact Hp
  iexact HX

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (Vend m c)
      ∗ Pipeline.ownSems0 own c ∗ semVal (barCell c) 0) := by
  rw [show (pdats m 0 c).Φ (Fin.last _) = iprop(scratch c ∗ ownZero c ∗ semVal (barCell c) 0) from Φ_last m c,
    show (Pipeline.scopedRest (Pipeline.pin (pcfgs (F := F)) adm 0).spec c : sProp 𝕄) = _ from scopedRest0_eq c, held_none, ownSems_eq]
  unfold scratch
  iintro ⟨⟨Hs, Hp⟩, Ho, Hb⟩
  isplitl [Hs]; · iexact Hs
  isplitl [Hp]; · iexact Hp
  isplitr; · iempintro
  isplitl [Ho] <;> iassumption

theorem owed_above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · exact owed_cut c h
  · exact absurd h (Nat.lt_irrefl 0)

theorem stage_small : ∀ (w : Fin 6) (s : Fin (spec0 w).nbuf), ¬ 9 ≤ ((spec0 w).sem s).val := by decide

set_option backward.isDefEq.respectTransparency.types false in
/-- The region: it takes the protocol in, pays what it owes, and gives every counter back at zero. -/
def reg0 : Pipeline.RegionSeg (pcfgs (F := F)) adm (pdats m) () defs₀ 𝒱₀ L lv 0 :=
  Pipeline.RegionSeg.ofTalk (pcfgs (F := F)) adm (pdats m) () defs₀ 𝒱₀ L lv 0 own own_facts
    ∅ (Pipeline.ucRefs τ sig \ Pipeline.arrRefs spec0) (Finset.empty_subset _) kit0 rfl (fun c => (body0 m c).loose)
    (fun _ => 0) O₀ (fun c => (owed_first m c).trans (zero_add _).symm) (owed_last m) (fun _ => rfl) (fun _ w => by fin_cases w <;> rfl)
    (V0 m) (Vend m) (fun c b hb => by
      obtain ⟨r, -, rfl⟩ := Finset.mem_map.mp (Finset.mem_filter.mp (Finset.mem_sdiff.mp (Finset.mem_sdiff.mp hb).1).1).1
      exact Pipeline.withArrays_of_ne spec0 c _ _ r fun w e => (Finset.mem_sdiff.mp (Finset.mem_sdiff.mp hb).1).2
        (Finset.mem_map.mpr ⟨r, Finset.mem_image.mpr ⟨w, Finset.mem_univ _, e⟩, rfl⟩))
    (Tin m) (fun c => semVal (barCell c) 0) (entering m) (fun c => semVal (barCell c) 0) (region_open m) (region_in m) (region_out m)
    (fun c => by iintro H; imodintro; iexact H)
    (fun _ => 0)
    ⟨fun c w s => by rw [L_tc]; exact Finset.mem_singleton_self _,
      fun c w s => Nat.le_of_eq (by
        show lv ((c : Thread nD τ), SemLoc.dma ((spec0 w).sem s)) () = 0
        dsimp only [lv]; exact if_neg (stage_small w s)),
      fun c t g i h => owed_above m c t g i h⟩
    (fun _ => iprop(emp))
    (fun c w => rfl) (fun c w => (Vend_arr m c w).symm)

/-! ## The segments -/

/-- What rides beside the buffers before the region, and after it. -/
def rideIn (c : Dev nD) : sProp 𝕄 := iprop(Tin m c ∗ (∃ r, prngReg c r) ∗ ∃ W, owes (c : Thread nD τ) (O₀ c) W)
def rideOut (c : Dev nD) : sProp 𝕄 := iprop(semVal (barCell c) 0 ∗ ∃ W, owes (c : Thread nD τ) (0 : CellTallies nD τ sig Unit) W)

theorem host_sub {ops : List (HloOp τ sig (Elt F))} (h : ops.Forall fun op => op.bufs ⊆ StableHlo.tcRefs τ sig) :
    ∀ op ∈ ops, op.bufs ⊆ Pipeline.ucRefs τ sig := fun op ho => Pipeline.sub_ucRefs op (List.forall_iff_forall_mem.mp h op ho)

def seg0 : Pipeline.HostSeg (Name := ℕ) (U := UU) (pcfgs (F := F)) defs₀ 𝒱₀ L lv :=
  Pipeline.HostSeg.ofOps _ _ _ _ _ (Pipeline.ucRefs τ sig) hostOps0 (host_sub hostOps0_sub) (List.forall_iff_forall_mem.mp hostOps0_fresh) (fun c b => m (c, b)) (rideIn m)
def seg1 : Pipeline.HostSeg (Name := ℕ) (U := UU) (pcfgs (F := F)) defs₀ 𝒱₀ L lv :=
  Pipeline.HostSeg.ofOps _ _ _ _ _ (Pipeline.ucRefs τ sig) hostOps1 (host_sub hostOps1_sub) (List.forall_iff_forall_mem.mp hostOps1_fresh) (Vend m) rideOut

def segs : List (Pipeline.Seg (pcfgs (F := F)) adm (pdats m) () defs₀ 𝒱₀ L lv) := [.host (seg0 m), .region (reg0 m), .host (seg1 m)]

theorem arrs_sub : Pipeline.arrRefs (τ := τ) spec0 ⊆ Pipeline.ucRefs τ sig := Pipeline.arrRefs_sub_ucRefs spec0 (by decide)

theorem region_pre (c : Dev nD) : iprop(StableHlo.held (c : Thread nD τ) (Pipeline.ucRefs τ sig) (V0 m c) ∗ rideIn m c) ⊢ (reg0 m).pre c := by
  show _ ⊢ iprop(StableHlo.held (c.tc : Thread nD τ) (Pipeline.arrRefs (τ := τ) spec0) (V0 m c) ∗ (∃ r, prngReg c r)
    ∗ (StableHlo.held (c.tc : Thread nD τ) (Pipeline.ucRefs τ sig \ Pipeline.arrRefs spec0) (V0 m c) ∗ emp) ∗ Tin m c ∗ ∃ Wd, owes (c : Thread nD τ) (0 + O₀ c) Wd)
  rw [StableHlo.held_sub_split _ arrs_sub, zero_add]
  unfold rideIn
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem region_post (c : Dev nD) : (reg0 m).post c ⊢ iprop(StableHlo.held (c : Thread nD τ) (Pipeline.ucRefs τ sig) (Vend m c) ∗ rideOut c) := by
  show iprop(StableHlo.held (c.tc : Thread nD τ) (Pipeline.arrRefs (τ := τ) spec0) (Vend m c) ∗ (∃ r, prngReg c r)
    ∗ (StableHlo.held (c.tc : Thread nD τ) (Pipeline.ucRefs τ sig \ Pipeline.arrRefs spec0) (Vend m c) ∗ emp) ∗ semVal (barCell c) 0
    ∗ ∃ Wd, owes (c : Thread nD τ) (0 : CellTallies nD τ sig Unit) Wd) ⊢ _
  rw [StableHlo.held_sub_split (S := Pipeline.ucRefs τ sig) _ arrs_sub]
  unfold rideOut
  iintro ⟨Ha, -, ⟨Hr, -⟩, Hb, HO⟩
  isplitl [Ha Hr]
  · isplitl [Ha] <;> iassumption
  isplitl [Hb] <;> iassumption

/-! ## The launch -/

theorem counters_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The launch element: the staging cells' and the protocol's. -/
def startElt : UU :=
  (initOf (Pipeline.cells (Pipeline.pin (pcfgs (F := F)) adm) cellOf_inj) (Pipeline.launchToks (Pipeline.pin (pcfgs (F := F)) adm) cellOf_inj), fundElt)

/-- The protocol's part waits at device 0 for the step that funds all devices at once. -/
def parked (c : Dev nD) : sProp 𝕄 := if c = 0 then BI.own (ER fundElt) else iprop(emp)

theorem parked_all : bigSep Finset.univ (parked (F := F)) = BI.own (ER fundElt) := by
  rw [bigSep_univ_at _ (0 : Dev nD), bigSep_congr (s := Finset.univ.erase 0) (Ψ := fun _ => (BI.emp : sProp 𝕄))
    fun c hc => by unfold parked; rw [if_neg (Finset.ne_of_mem_erase hc)]; rfl, BI.bigSep_emp_const]
  unfold parked; rw [if_pos rfl]; exact BI.equiv_iff.mp sep_emp

abbrev Tfst (c : Dev nD) : sProp 𝕄 := iprop(StableHlo.held (c : Thread nD τ) (Pipeline.ucRefs τ sig) (fun b => m (c, b)) ∗ rideIn m c)
abbrev Tlst (c : Dev nD) : sProp 𝕄 := iprop(StableHlo.held (c : Thread nD τ) (Pipeline.ucRefs τ sig) (Vfin m c) ∗ semVal (barCell c) 0)

/-- The launch's state dealt to the devices. -/
theorem deal :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (Tfst m) : sProp 𝕄) := by
  let rest (c : Dev nD) : sProp 𝕄 := iprop(StableHlo.held (c : Thread nD τ) (Pipeline.ucRefs τ sig) (fun b => m (c, b))
          ∗ credits c ∗ (∃ r, prngReg c r) ∗ ∃ W, owes (c : Thread nD τ) (O₀ c) W)
  have one (c : Dev nD) : iprop(unscopedBufs c (fun b => m ((c : Thread nD τ).loc b)) ∗ unscopedSems0 c
          ∗ owes (c : Thread nD τ) (O₀ c) ∅ ∗ Pipeline.launchCred O₀ c ∗ prngReg c (ρ c) ∗ parked c)
      ⊢ (iprop(rest c ∗ (semVal (barCell c) 0 ∗ parked c)) : sProp 𝕄) := by
    rw [show unscopedBufs c (fun b => m ((c : Thread nD τ).loc b)) = StableHlo.held (c : Thread nD τ) (Pipeline.ucRefs τ sig) (fun b => m (c, b))
      from Pipeline.unscopedBufs_held c (fun b => m (c, b)), counters_eq]
    iintro ⟨Hh, Hs, HO, Hc, Hp, HG⟩
    isplitr [Hs HG]
    · isplitl [Hh]; · iexact Hh
      isplitl [Hc]; · iapply (credits_of (F := F) c) $$ Hc
      isplitl [Hp]; · iexists (ρ c); iexact Hp
      iexists ∅; iexact HO
    isplitl [Hs] <;> iassumption
  have h1 : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (bigSep Finset.univ fun c : Dev nD => iprop(rest c ∗ (semVal (barCell c) 0 ∗ parked c)) : sProp 𝕄) := bigSep_mono fun c _ => one c
  iintro ⟨H, -⟩
  ihave H := h1 $$ H
  ihave H2 := bigSep_unpair $$ H; icases H2 with ⟨HB, H3⟩
  ihave H4 := bigSep_unpair $$ H3; icases H4 with ⟨Hv, HG⟩
  ihave Hu := (Entails.of_eq (parked_all (F := F))) $$ HG
  imod (fund (staged m)) $$ [Hv Hu] with Hg
  · isplitl [Hv] <;> iassumption
  imodintro
  have two (c : Dev nD) : iprop((∃ K, ghost (staged m) K c) ∗ rest c) ⊢ Tfst m c := by
    unfold Tfst rideIn Tin
    iintro ⟨Hg, Hh, Hc, Hp, HO⟩
    isplitl [Hh]; · iexact Hh
    isplitl [Hg Hc]; · isplitl [Hg] <;> iassumption
    isplitl [Hp] <;> iassumption
  have h2 : (bigSep Finset.univ fun c : Dev nD => iprop((∃ K, ghost (staged m) K c) ∗ rest c)) ⊢ (bigSep Finset.univ (Tfst m) : sProp 𝕄) := bigSep_mono fun c _ => two c
  iapply h2
  iapply bigSep_pair
  isplitl [Hg] <;> iassumption

/-! ## The final contents, and the run -/

theorem Vfin_keeps (c : Dev nD) (b : Ref sig .tc) (hb : b ≠ main_v6) (hw : ∀ w, Pipeline.arrRef spec0 w ≠ b) : Vfin m c b = V m c b := by
  unfold Vfin
  rw [StableHlo.after_cons, StableHlo.after_nil]
  exact (StableHlo.reshape_result_ne (τ := τ) (Val := Elt F) main_v5 main_v6 _ _ _ _ _ hb).trans (Pipeline.withArrays_of_ne spec0 c _ _ b hw)

theorem Vfin_bt (c : Dev nD) : Vfin m c main_arg3 = V m c main_arg3 := by
  unfold Vfin
  rw [StableHlo.after_cons, StableHlo.after_nil]
  exact (StableHlo.reshape_result_ne (τ := τ) (Val := Elt F) main_v5 main_v6 _ _ _ _ _ (r := main_arg3) (by decide)).trans
    ((Vend_arr m c 3).trans ((dat0 m c).arrAt_in 3 rfl _))

/-- The result: the combination, reshaped. -/
theorem Vfin_out (c : Dev nD) : Vfin m c main_v6 = shapeCast S16x1x16x64 (outOf (staged m) c) shapeCasts_S16x16x64_S16x1x16x64 := by
  unfold Vfin
  rw [StableHlo.after_cons, StableHlo.after_nil]
  refine (StableHlo.reshape_result (τ := τ) (Val := Elt F) main_v5 main_v6 _ _ _ _ _).trans ?_
  exact congrArg (fun x => shapeCast S16x1x16x64 x shapeCasts_S16x16x64_S16x1x16x64) (Vend_out m c)

set_option backward.isDefEq.respectTransparency.types false in
/-- The whole program on the sixteen devices: every execution ends, the arguments unchanged, the result the combination of
    the group's parts, every counter at zero. -/
theorem run : θ_run defs (onTc (τ := τ) (main (F := F))) ⟨m, fun _ => 0, ρ⟩
    (fun r => (∀ c : Dev nD, ∀ b ∈ Pipeline.ucRefs τ sig, r.2.mem (c, b) = Vfin m c b) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (seg1 m) (reg0 m) rfl rfl c]; rfl)
    (by simp only [segs, Pipeline.Seg.pipes_host, Pipeline.Seg.pipes_region, Pipeline.Seg.pipes_nil]; decide)
    O₀ L_of_ne parked startElt
    (by
      unfold startElt
      iintro Hu
      ihave H := (ownU_pair _ _) $$ Hu
      icases H with ⟨HP, HX⟩
      imodintro
      isplitl [HP]; · iexact HP
      rw [parked_all]; iexact HX)
    (Tfst m) (Tlst m)
    (by
      refine ⟨fun c => .rfl, fun c => region_pre m c, fun c => region_post m c, fun c => ?_⟩
      show iprop(StableHlo.held (c : Thread nD τ) (Pipeline.ucRefs τ sig) (Vfin m c) ∗ rideOut c) ⊢ _
      unfold rideOut
      iintro ⟨Hh, Hb, HO⟩
      isplitr [HO]
      · isplitl [Hh] <;> iassumption
      iexact HO)
    (deal m ρ)
    (fun c s => (∀ b ∈ Pipeline.ucRefs τ sig, s.mem (c, b) = Vfin m c b) ∧ ∀ sm : SemLoc sig, sm.isScoped .tc = false → s.sem ((c : Thread nD τ), sm) = 0)
    (fun c s' => by
      dsimp only [Tlst]
      iintro ⟨⟨Hh, Hb⟩, HSI⟩
      ihave H := (pointsTo_read_all (Pipeline.ucRefs τ sig) (fun b => (c, b)) (fun b => Vfin m c b) s') $$ [Hh HSI]
      · unfold StableHlo.held
        isplitl [Hh] <;> iassumption
      icases H with ⟨%h1, HSI⟩
      imod (Pipeline.unscopedSems0_read (X := semVal (barCell c) 0) (c := c) (by rw [counters_eq]; exact fupd_intro) s') $$ [Hb HSI] with ⟨%h2, HSI⟩
      · isplitl [Hb] <;> iassumption
      imodintro
      isplitr
      · ipureintro; exact ⟨h1, h2⟩
      iexact HSI)
    (fun s h hs => ⟨fun c => (h c).1, sem_eq_zero hs fun c sm hsm => (h c).2 sm hsm⟩)

theorem in_refs (b : Ref sig .tc) (h : b.isScoped = false) : Proc.devRef .tc b ∈ Pipeline.ucRefs τ sig :=
  Finset.mem_filter.mpr ⟨StableHlo.devRef_mem_tcRefs b, fun h' => Bool.false_ne_true (h.symm.trans h')⟩

/-- The run read at the arguments and the result. -/
theorem run_ends : θ_run defs (onTc (τ := τ) (main (F := F))) ⟨m, fun _ => 0, ρ⟩ (fun r => (∀ c : Dev nD,
      r.2.mem ((c.tc : Thread nD τ).loc main_v6) = shapeCast S16x1x16x64 (outOf (staged m) c) shapeCasts_S16x16x64_S16x1x16x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c =>
    ⟨(h.1 c _ (in_refs main_v6 (by decide))).trans (Vfin_out m c),
      (h.1 c _ (in_refs main_arg0 (by decide))).trans ((Vfin_keeps m c main_arg0 (by decide) (by decide)).trans (V_main_arg0 m c)),
      (h.1 c _ (in_refs main_arg1 (by decide))).trans ((Vfin_keeps m c main_arg1 (by decide) (by decide)).trans (V_main_arg1 m c)),
      (h.1 c _ (in_refs main_arg2 (by decide))).trans ((Vfin_keeps m c main_arg2 (by decide) (by decide)).trans (V_main_arg2 m c)),
      (h.1 c _ (in_refs main_arg3 (by decide))).trans ((Vfin_bt m c).trans (V_main_arg3 m c)),
      (h.1 c _ (in_refs main_arg4 (by decide))).trans ((Vfin_keeps m c main_arg4 (by decide) (by decide)).trans (V_main_arg4 m c))⟩, h.2⟩) (run m ρ)

end Cert.KernelIdeal.Paged

end
-- ==== Proof.Value.Softmax.lean ====
/- The arithmetic of the combination, on the extended reals and away from any program. One query of one head attends to
   slots; each live slot names a page of one of four devices, and a page has sixteen rows. A device weighs each of its rows
   by the number of live slots that name the row's page, sums relative to its own largest score, and the four sums are
   rescaled to the largest score of all and divided: that is the softmax over the slots. -/
module

public import Idealize.ShloMosaic.PureOps.Ideal
public import Mathlib.Data.EReal.Inv

@[expose] public section

noncomputable section

namespace Cert.Value

open Idealize.ShloMosaic
open scoped BigOperators

/-! ## Sums and products of extended reals -/

/-- A finite nonnegative factor goes into a sum. -/
theorem mul_sum_of_nonneg {κ : Type} (S : Finset κ) {r : EReal} (h0 : 0 ≤ r) (ht : r ≠ ⊤) (f : κ → EReal) :
    r * ∑ i ∈ S, f i = ∑ i ∈ S, r * f i := by
  classical
  induction S using Finset.induction_on with
  | empty => rw [Finset.sum_empty, Finset.sum_empty, mul_zero]
  | insert a S ha ih => rw [Finset.sum_insert ha, Finset.sum_insert ha, EReal.left_distrib_of_nonneg_of_ne_top h0 ht, ih]

/-- Any factor goes into a sum of nonnegative terms. -/
theorem sum_mul_of_nonneg {κ : Type} (S : Finset κ) (f : κ → EReal) (h0 : ∀ i, 0 ≤ f i) (c : EReal) :
    (∑ i ∈ S, f i) * c = ∑ i ∈ S, f i * c := by
  classical
  induction S using Finset.induction_on with
  | empty => rw [Finset.sum_empty, Finset.sum_empty, zero_mul]
  | insert a S ha ih =>
    rw [Finset.sum_insert ha, Finset.sum_insert ha, EReal.right_distrib_of_nonneg (h0 a) (Finset.sum_nonneg fun i _ => h0 i), ih]

theorem exp_nonneg (x : EReal) : 0 ≤ Ideal.exp x := by
  induction x with
  | bot => exact le_refl _
  | top => exact le_top
  | coe r => exact EReal.coe_nonneg.mpr (Real.exp_pos r).le

theorem exp_ne_top {x : EReal} (h : x ≠ ⊤) : Ideal.exp x ≠ ⊤ := by
  induction x with
  | bot => exact EReal.zero_ne_top
  | top => exact absurd rfl h
  | coe r => exact EReal.coe_ne_top _

/-- A sum of reals, as extended reals. -/
theorem coe_sum {κ : Type} (S : Finset κ) (r : κ → ℝ) : ((∑ i ∈ S, r i : ℝ) : EReal) = ∑ i ∈ S, (r i : EReal) := by
  classical
  induction S using Finset.induction_on with
  | empty => rw [Finset.sum_empty, Finset.sum_empty, EReal.coe_zero]
  | insert a S ha ih => rw [Finset.sum_insert ha, Finset.sum_insert ha, EReal.coe_add, ih]

/-- A finite extended real is a real. -/
theorem real_of {x : EReal} (hb : x ≠ ⊥) (ht : x ≠ ⊤) : ∃ r : ℝ, x = (r : EReal) := ⟨x.toReal, (EReal.coe_toReal ht hb).symm⟩

/-- Rescaling from one finite reference point to another. -/
theorem exp_rescale (m g s : ℝ) : Ideal.exp ((m : EReal) - g) * Ideal.exp ((s : EReal) - m) = Ideal.exp ((s : EReal) - g) := by
  rw [← EReal.coe_sub, ← EReal.coe_sub, ← EReal.coe_sub, Ideal.exp_coe, Ideal.exp_coe, Ideal.exp_coe, ← EReal.coe_mul,
    ← Real.exp_add]
  congr 2
  ring

/-! ## The two ways of attending -/

/-- A row of a device: its page, and its place in the page. -/
abbrev Row : Type := Fin 128 × Fin 16

variable (s v : Fin 4 → Row → EReal) (live : Fin 128 → Prop) [DecidablePred live] (p : Fin 128 → Fin 4 × Fin 128) (lo th : EReal)

/-- How many live slots name the row's page. -/
def cnt (z : Fin 4) (i : Row) : EReal := ∑ j : Fin 128, if live j ∧ p j = (z, i.1) then 1 else 0

/-- A device's largest score over the rows that a live slot names; the other rows stand at `lo`. -/
def top (z : Fin 4) : EReal := Finset.univ.sup fun i : Row => if 0 < cnt live p z i then s z i else lo

/-- What a device subtracts from its scores. -/
def base (z : Fin 4) : EReal := if top s live p lo z < th then 0 else top s live p lo z

/-- A row's weight on its device. -/
def wt (z : Fin 4) (i : Row) : EReal := Ideal.exp (s z i - base s live p lo th z) * cnt live p z i

/-- A device's sum of weights, and its weighted sum of values. -/
def sumL (z : Fin 4) : EReal := ∑ i : Row, wt s live p lo th z i
def sumU (z : Fin 4) : EReal := ∑ i : Row, wt s live p lo th z i * v z i

/-- The largest score of all devices. -/
def topAll : EReal := Finset.univ.sup fun z : Fin 4 => top s live p lo z

/-- What the devices combine their parts to. -/
def combined : EReal :=
  Ideal.div (∑ z, Ideal.exp (top s live p lo z - topAll s live p lo) * sumU s v live p lo th z)
    (∑ z, Ideal.exp (top s live p lo z - topAll s live p lo) * sumL s live p lo th z)

/-- A slot's score: minus infinity where the slot is not live. -/
def score (t : Row) : EReal := if live t.1 then s (p t.1).1 ((p t.1).2, t.2) else ⊥

/-- The largest score over the slots. -/
def best : EReal := Finset.univ.sup fun t : Row => score s live p t

/-- A slot's weight. -/
def prob (t : Row) : EReal := Ideal.exp (score s live p t - best s live p)

/-- The softmax over the slots, applied to the values. -/
def attended (w : Row → EReal) : EReal := ∑ t : Row, w t * Ideal.div (prob s live p t) (∑ t' : Row, prob s live p t')

/-! ## They agree -/

theorem cnt_nonneg (z : Fin 4) (i : Row) : 0 ≤ cnt live p z i :=
  Finset.sum_nonneg fun j _ => by split_ifs; exacts [zero_le_one, le_refl _]

theorem cnt_pos {z : Fin 4} {i : Row} (h : 0 < cnt live p z i) : ∃ j, live j ∧ p j = (z, i.1) := by
  by_contra hn
  refine absurd h (not_lt_of_ge (le_of_eq ?_))
  exact Finset.sum_eq_zero fun j _ => if_neg fun hj => hn ⟨j, hj⟩

theorem cnt_pos_of {z : Fin 4} {i : Row} {j : Fin 128} (h1 : live j) (h2 : p j = (z, i.1)) : 0 < cnt live p z i := by
  refine lt_of_lt_of_le zero_lt_one ?_
  refine le_trans (le_of_eq (if_pos ⟨h1, h2⟩).symm) (Finset.single_le_sum (f := fun j => if live j ∧ p j = (z, i.1) then (1 : EReal) else 0) (fun j _ => ?_) (Finset.mem_univ j))
  split_ifs; exacts [zero_le_one, le_refl _]

/-- What is asked of the scores: a row that a live slot names scores at least `th`, and not plus infinity. -/
def Bounded : Prop := ∀ z i, 0 < cnt live p z i → th ≤ s z i ∧ s z i < ⊤

variable {s live p lo th}

section
variable (hs : Bounded s live p th) (hlo : lo ≠ ⊥) (hlt : lo < th) (hth : th < ⊤)
include hs hlo hlt hth

theorem top_ne_bot (z : Fin 4) : top s live p lo z ≠ ⊥ := by
  intro h
  have h1 : (if 0 < cnt live p z (0, 0) then s z (0, 0) else lo) ≤ ⊥ :=
    le_trans (Finset.le_sup (f := fun i : Row => if 0 < cnt live p z i then s z i else lo) (Finset.mem_univ (0, 0))) (le_of_eq h)
  split_ifs at h1 with hc
  · exact absurd (lt_of_lt_of_le hlt ((hs z _ hc).1.trans h1)) not_lt_bot
  · exact hlo (le_bot_iff.mp h1)

theorem top_lt_top (z : Fin 4) : top s live p lo z < ⊤ := by
  refine (Finset.sup_lt_iff bot_lt_top).mpr fun i _ => ?_
  split_ifs with hc
  · exact (hs z i hc).2
  · exact hlt.trans hth

theorem topAll_ne_bot : topAll s live p lo ≠ ⊥ := fun h =>
  top_ne_bot hs hlo hlt hth 0 (le_bot_iff.mp (le_trans (Finset.le_sup (f := fun z => top s live p lo z) (Finset.mem_univ 0)) (le_of_eq h)))

theorem topAll_lt_top : topAll s live p lo < ⊤ := (Finset.sup_lt_iff bot_lt_top).mpr fun z _ => top_lt_top hs hlo hlt hth z

/-- A row that a live slot names lies under its device's largest score, which is then what the device subtracts. -/
theorem base_eq {z : Fin 4} {i : Row} (hc : 0 < cnt live p z i) : base s live p lo th z = top s live p lo z := by
  refine if_neg (not_lt_of_ge ((hs z i hc).1.trans ?_))
  exact le_trans (le_of_eq (if_pos hc).symm)
    (Finset.le_sup (f := fun i : Row => if 0 < cnt live p z i then s z i else lo) (Finset.mem_univ i))

/-- A device's weight of a row, rescaled. -/
theorem scaled_wt (z : Fin 4) (i : Row) :
    Ideal.exp (top s live p lo z - topAll s live p lo) * wt s live p lo th z i
      = Ideal.exp (s z i - topAll s live p lo) * cnt live p z i := by
  unfold wt
  by_cases hc : 0 < cnt live p z i
  · rw [base_eq hs hlo hlt hth hc, ← mul_assoc]
    obtain ⟨m, hm⟩ := real_of (top_ne_bot hs hlo hlt hth z) (top_lt_top hs hlo hlt hth z).ne
    obtain ⟨g, hg⟩ := real_of (topAll_ne_bot hs hlo hlt hth) (topAll_lt_top hs hlo hlt hth).ne
    obtain ⟨x, hx⟩ := real_of (x := s z i) (fun h => by
      have := lt_of_lt_of_le hlt (hs z i hc).1; rw [h] at this; exact not_lt_bot this) (hs z i hc).2.ne
    rw [hm, hg, hx, exp_rescale]
  · rw [le_antisymm (not_lt.mp hc) (cnt_nonneg live p z i), mul_zero, mul_zero, mul_zero]

theorem scale_ok (z : Fin 4) : Ideal.exp (top s live p lo z - topAll s live p lo) ≠ ⊤ := by
  obtain ⟨m, hm⟩ := real_of (top_ne_bot hs hlo hlt hth z) (top_lt_top hs hlo hlt hth z).ne
  obtain ⟨g, hg⟩ := real_of (topAll_ne_bot hs hlo hlt hth) (topAll_lt_top hs hlo hlt hth).ne
  rw [hm, hg, ← EReal.coe_sub]
  exact EReal.coe_ne_top _

/-- A device's weighted sum, rescaled, whatever is weighted. -/
theorem scaled_sum (z : Fin 4) (w : Row → EReal) :
    Ideal.exp (top s live p lo z - topAll s live p lo) * ∑ i : Row, wt s live p lo th z i * w i
      = ∑ i : Row, Ideal.exp (s z i - topAll s live p lo) * cnt live p z i * w i := by
  rw [mul_sum_of_nonneg _ (exp_nonneg _) (scale_ok hs hlo hlt hth z)]
  exact Finset.sum_congr rfl fun i _ => by rw [← mul_assoc, scaled_wt hs hlo hlt hth]

end

/-- Counting the slots that name a row's page is summing over them. -/
theorem regroup (f : Fin 4 → Row → EReal) :
    ∑ z, ∑ i : Row, cnt live p z i * f z i = ∑ t : Row, if live t.1 then f (p t.1).1 ((p t.1).2, t.2) else 0 := by
  have h1 : ∀ z (i : Row), cnt live p z i * f z i = ∑ j : Fin 128, if live j ∧ p j = (z, i.1) then f z i else 0 := by
    intro z i
    unfold cnt
    rw [sum_mul_of_nonneg _ _ (fun j => by split_ifs; exacts [zero_le_one, le_refl _])]
    exact Finset.sum_congr rfl fun j _ => by rw [ite_mul, one_mul, zero_mul]
  have h2 : ∀ j : Fin 128, (∑ z, ∑ i : Row, if live j ∧ p j = (z, i.1) then f z i else 0)
      = ∑ o : Fin 16, if live j then f (p j).1 ((p j).2, o) else 0 := by
    intro j
    have h3 : ∀ z, (∑ i : Row, if live j ∧ p j = (z, i.1) then f z i else 0)
        = ∑ o : Fin 16, ∑ l : Fin 128, if live j ∧ p j = (z, l) then f z (l, o) else 0 := fun z => by
      rw [Fintype.sum_prod_type, Finset.sum_comm]
    simp only [h3]
    rw [Finset.sum_comm]
    refine Finset.sum_congr rfl fun o _ => ?_
    by_cases hj : live j
    · simp only [hj, true_and, if_true]
      rw [Finset.sum_eq_single (p j).1 (fun z _ hz => Finset.sum_eq_zero fun l _ => if_neg fun h => hz (by rw [h]))
        (fun h => absurd (Finset.mem_univ _) h)]
      rw [Finset.sum_eq_single (p j).2 (fun l _ hl => if_neg fun h => hl (by rw [h])) (fun h => absurd (Finset.mem_univ _) h)]
      exact if_pos rfl
    · simp only [hj, false_and, if_false, Finset.sum_const_zero]
  calc ∑ z, ∑ i : Row, cnt live p z i * f z i
      = ∑ z, ∑ i : Row, ∑ j : Fin 128, (if live j ∧ p j = (z, i.1) then f z i else 0) :=
        Finset.sum_congr rfl fun z _ => Finset.sum_congr rfl fun i _ => h1 z i
    _ = ∑ z, ∑ j : Fin 128, ∑ i : Row, (if live j ∧ p j = (z, i.1) then f z i else 0) :=
        Finset.sum_congr rfl fun z _ => Finset.sum_comm
    _ = ∑ j : Fin 128, ∑ z, ∑ i : Row, (if live j ∧ p j = (z, i.1) then f z i else 0) := Finset.sum_comm
    _ = ∑ j : Fin 128, ∑ o : Fin 16, (if live j then f (p j).1 ((p j).2, o) else 0) := Finset.sum_congr rfl fun j _ => h2 j
    _ = _ := (Fintype.sum_prod_type (f := fun t : Row => if live t.1 then f (p t.1).1 ((p t.1).2, t.2) else 0)).symm

section
variable (hs : Bounded s live p th) (hlo : lo ≠ ⊥) (hlt : lo < th) (hth : th < ⊤)
include hs hlo hlt hth

/-- The largest score over the devices is the largest over the slots, once a slot is live. -/
theorem best_eq (hex : ∃ j, live j) : best s live p = topAll s live p lo := by
  have hle : ∀ (z : Fin 4) (i : Row), 0 < cnt live p z i → s z i ≤ best s live p := by
    intro z i hc
    obtain ⟨j, h1, h2⟩ := cnt_pos live p hc
    refine le_trans (le_of_eq ?_) (Finset.le_sup (f := fun t : Row => score s live p t) (Finset.mem_univ (j, i.2)))
    show s z i = score s live p (j, i.2)
    unfold score
    rw [if_pos h1, h2]
  apply le_antisymm
  · refine Finset.sup_le fun t _ => ?_
    unfold score
    split_ifs with ht
    · have hc : 0 < cnt live p (p t.1).1 ((p t.1).2, t.2) := cnt_pos_of live p ht rfl
      refine le_trans (le_trans (le_of_eq (if_pos hc).symm) (Finset.le_sup
        (f := fun i : Row => if 0 < cnt live p (p t.1).1 i then s (p t.1).1 i else lo) (Finset.mem_univ ((p t.1).2, t.2)))) ?_
      exact Finset.le_sup (f := fun z => top s live p lo z) (Finset.mem_univ (p t.1).1)
    · exact bot_le
  · refine Finset.sup_le fun z _ => Finset.sup_le fun i _ => ?_
    split_ifs with hc
    · exact hle z i hc
    · obtain ⟨j, hj⟩ := hex
      have hc : 0 < cnt live p (p j).1 ((p j).2, 0) := cnt_pos_of live p hj rfl
      exact hlt.le.trans ((hs _ _ hc).1.trans (hle _ _ hc))

/-- A slot's weight: its score's, and nothing where it is not live. -/
theorem prob_eq (hex : ∃ j, live j) (t : Row) : prob s live p t
    = if live t.1 then Ideal.exp (s (p t.1).1 ((p t.1).2, t.2) - topAll s live p lo) else 0 := by
  unfold prob
  rw [best_eq hs hlo hlt hth hex]
  unfold score
  split_ifs with h
  · rfl
  · rw [EReal.bot_sub, Ideal.exp_bot]

theorem live_real {t : Row} (ht : live t.1) :
    ∃ r : ℝ, s (p t.1).1 ((p t.1).2, t.2) - topAll s live p lo = (r : EReal) := by
  have hc : 0 < cnt live p (p t.1).1 ((p t.1).2, t.2) := cnt_pos_of live p ht rfl
  obtain ⟨g, hg⟩ := real_of (topAll_ne_bot hs hlo hlt hth) (topAll_lt_top hs hlo hlt hth).ne
  obtain ⟨x, hx⟩ := real_of (x := s (p t.1).1 ((p t.1).2, t.2)) (fun h => by
    have := lt_of_lt_of_le hlt (hs _ _ hc).1; rw [h] at this; exact not_lt_bot this) (hs _ _ hc).2.ne
  exact ⟨x - g, by rw [hx, hg, EReal.coe_sub]⟩

/-- The weights sum to a finite number above nothing. -/
theorem probs_real (hex : ∃ j, live j) : ∃ r : ℝ, 0 < r ∧ ∑ t : Row, prob s live p t = (r : EReal) := by
  have hr : ∀ t : Row, ∃ r : ℝ, 0 ≤ r ∧ (live t.1 → 0 < r) ∧ prob s live p t = (r : EReal) := by
    intro t
    rw [prob_eq hs hlo hlt hth hex]
    split_ifs with ht
    · obtain ⟨r, hr⟩ := live_real hs hlo hlt hth (t := t) ht
      exact ⟨Real.exp r, (Real.exp_pos r).le, fun _ => Real.exp_pos r, by rw [hr, Ideal.exp_coe]⟩
    · exact ⟨0, le_refl _, fun h => absurd h ht, rfl⟩
  choose r h0 hl hp using hr
  obtain ⟨j, hj⟩ := hex
  refine ⟨∑ t, r t, Finset.sum_pos' (fun t _ => h0 t) ⟨(j, 0), Finset.mem_univ _, hl (j, 0) hj⟩, ?_⟩
  rw [coe_sum]
  exact Finset.sum_congr rfl fun t _ => hp t

/-- THE COMBINATION: what four devices combine is the softmax over the slots, applied to the values. -/
theorem combined_eq (hex : ∃ j, live j) (w : Row → EReal)
    (hw : ∀ t : Row, live t.1 → w t = v (p t.1).1 ((p t.1).2, t.2)) :
    combined s v live p lo th = attended s live p w := by
  obtain ⟨D, hD, hsum⟩ := probs_real hs hlo hlt hth hex
  have hL : (∑ z, Ideal.exp (top s live p lo z - topAll s live p lo) * sumL s live p lo th z) = (D : EReal) := by
    rw [← hsum]
    have h1 : ∀ z, Ideal.exp (top s live p lo z - topAll s live p lo) * sumL s live p lo th z
        = ∑ i : Row, cnt live p z i * Ideal.exp (s z i - topAll s live p lo) := by
      intro z
      have := scaled_sum hs hlo hlt hth z (fun _ => 1)
      simp only [mul_one] at this
      rw [sumL, this]
      exact Finset.sum_congr rfl fun i _ => mul_comm _ _
    simp only [h1]
    rw [regroup (live := live) (p := p) fun z i => Ideal.exp (s z i - topAll s live p lo)]
    exact Finset.sum_congr rfl fun t _ => (prob_eq hs hlo hlt hth hex t).symm
  have hU : (∑ z, Ideal.exp (top s live p lo z - topAll s live p lo) * sumU s v live p lo th z)
      = ∑ t : Row, if live t.1 then
          Ideal.exp (s (p t.1).1 ((p t.1).2, t.2) - topAll s live p lo) * v (p t.1).1 ((p t.1).2, t.2) else 0 := by
    have h1 : ∀ z, Ideal.exp (top s live p lo z - topAll s live p lo) * sumU s v live p lo th z
        = ∑ i : Row, cnt live p z i * (Ideal.exp (s z i - topAll s live p lo) * v z i) := by
      intro z
      rw [sumU, scaled_sum hs hlo hlt hth z (v z)]
      exact Finset.sum_congr rfl fun i _ => by rw [mul_comm (Ideal.exp _), mul_assoc]
    simp only [h1]
    exact regroup (live := live) (p := p) fun z i => Ideal.exp (s z i - topAll s live p lo) * v z i
  unfold combined attended
  rw [hL, hU, hsum]
  have hne : (D : EReal) ≠ 0 := EReal.coe_ne_zero.mpr hD.ne'
  have hinv : ((D : EReal))⁻¹ = ((D⁻¹ : ℝ) : EReal) := rfl
  have hdiv : ∀ x : EReal, Ideal.div x (D : EReal) = ((D⁻¹ : ℝ) : EReal) * x := fun x => by
    unfold Ideal.div
    rw [if_neg hne, hinv, mul_comm]
  rw [hdiv, mul_sum_of_nonneg _ (EReal.coe_nonneg.mpr (inv_pos.mpr hD).le) (EReal.coe_ne_top _)]
  refine Finset.sum_congr rfl fun t _ => ?_
  rw [hdiv, prob_eq hs hlo hlt hth hex]
  split_ifs with ht
  · rw [hw t ht, mul_comm (v _ _), mul_assoc]
  · rw [mul_zero, mul_zero]

end

end Cert.Value

end
-- ==== Proof.Value.Attend.lean ====
/- The problem's arrays, whole, and what one query of one head reads of them: its score against each row of each page, the
   values of the rows, which slots are live, and which page a slot names. -/
module

public import proofs.«01_k».proof.Proof.Value.Softmax
public import Idealize.ShloMosaic.Lib.Pointwise
public import Idealize.ShloMosaic.Lib.WordCmp

@[expose] public section

noncomputable section

namespace Cert.Value

open Idealize.ShloMosaic
open scoped BigOperators

/-! ## Rows in a line -/

/-- The rows of a device's pages, or of a sequence's slots, in a line. -/
def line : Row ≃ Fin 2048 where
  toFun i := ⟨16 * i.1.val + i.2.val, by have := i.1.isLt; have := i.2.isLt; omega⟩
  invFun r := (⟨r.val / 16, by have := r.isLt; omega⟩, ⟨r.val % 16, Nat.mod_lt _ (by decide)⟩)
  left_inv i := by
    have := i.2.isLt
    exact Prod.ext (Fin.ext (show (16 * i.1.val + i.2.val) / 16 = i.1.val by omega))
      (Fin.ext (show (16 * i.1.val + i.2.val) % 16 = i.2.val by omega))
  right_inv r := Fin.ext (show 16 * (r.val / 16) + r.val % 16 = r.val by omega)

theorem sum_line (f : Fin 2048 → EReal) : ∑ r, f r = ∑ i : Row, f (line i) := (Equiv.sum_comp line f).symm

/-- The largest of a family of extended reals, as the reductions fold it. -/
theorem fold_sup {κ : Type} [Fintype κ] (f : κ → EReal) : Finset.fold max ⊥ f Finset.univ = Finset.univ.sup f := rfl

theorem fold_line (f : Fin 2048 → EReal) : Finset.fold max ⊥ f Finset.univ = Finset.univ.sup fun i : Row => f (line i) := by
  rw [fold_sup, Finset.sup_univ_eq_iSup, Finset.sup_univ_eq_iSup]
  exact (Equiv.iSup_comp (g := f) line).symm

/-! ## The constants -/

/-- The scale of the scores. -/
def scale : EReal := Ideal.ofBits .f32 0x3E000000#32
/-- What stands for an unnamed row's score. -/
def floor : EReal := Ideal.ofBits .f32 0xF149F2CA#32
/-- Below this a device takes none of its rows to be named. -/
def thresh : EReal := Ideal.ofBits .f32 0xEFA18F08#32

theorem floor_eq : floor = ((-1 * (2 ^ 23 + 4846282 : ℕ) * (2 : ℝ) ^ (76 : ℤ) : ℝ) : EReal) := by
  show Ideal.ieee 8 23 0xF149F2CA#32 = _
  have h1 : ((0xF149F2CA#32).extractLsb' (8 + 23) 1 == 1#1) = true := by decide
  have h2 : ((0xF149F2CA#32).extractLsb' 23 8).toNat = 226 := by decide
  have h3 : ((0xF149F2CA#32).extractLsb' 0 23).toNat = 4846282 := by decide
  simp only [Ideal.ieee, h1, h2, h3]
  norm_num
theorem thresh_eq : thresh = ((-1 * (2 ^ 23 + 2199304 : ℕ) * (2 : ℝ) ^ (73 : ℤ) : ℝ) : EReal) := by
  show Ideal.ieee 8 23 0xEFA18F08#32 = _
  have h1 : ((0xEFA18F08#32).extractLsb' (8 + 23) 1 == 1#1) = true := by decide
  have h2 : ((0xEFA18F08#32).extractLsb' 23 8).toNat = 223 := by decide
  have h3 : ((0xEFA18F08#32).extractLsb' 0 23).toNat = 2199304 := by decide
  simp only [Ideal.ieee, h1, h2, h3]
  norm_num

theorem floor_ne_bot : floor ≠ ⊥ := by rw [floor_eq]; exact EReal.coe_ne_bot _
theorem thresh_lt_top : thresh < ⊤ := by rw [thresh_eq]; exact EReal.coe_lt_top _
theorem floor_lt : floor < thresh := by
  rw [floor_eq, thresh_eq, EReal.coe_lt_coe_iff]
  norm_num

theorem ofBits_bot : Ideal.ofBits .f32 0xFF800000#32 = ⊥ := by
  show Ideal.ieee 8 23 0xFF800000#32 = _
  have h1 : ((0xFF800000#32).extractLsb' (8 + 23) 1 == 1#1) = true := by decide
  have h2 : ((0xFF800000#32).extractLsb' 23 8).toNat = 255 := by decide
  have h3 : ((0xFF800000#32).extractLsb' 0 23).toNat = 0 := by decide
  simp only [Ideal.ieee, h1, h2, h3]
  norm_num
theorem ofBits_top : Ideal.ofBits .f32 0x7F800000#32 = ⊤ := by
  show Ideal.ieee 8 23 0x7F800000#32 = _
  have h1 : ((0x7F800000#32).extractLsb' (8 + 23) 1 == 1#1) = false := by decide
  have h2 : ((0x7F800000#32).extractLsb' 23 8).toNat = 255 := by decide
  have h3 : ((0x7F800000#32).extractLsb' 0 23).toNat = 0 := by decide
  simp only [Ideal.ieee, h1, h2, h3]
  norm_num

/-! ## The whole arrays -/

/-- The arguments: queries, pages of keys and of values, page tables, lengths. -/
structure Args where
  Q : (⟨4, ![16, 1, 16, 64]⟩ : Shape).Idx → EReal
  K : (⟨4, ![512, 16, 16, 64]⟩ : Shape).Idx → EReal
  V : (⟨4, ![512, 16, 16, 64]⟩ : Shape).Idx → EReal
  bt : (⟨2, ![16, 128]⟩ : Shape).Idx → BitVec 32
  lens : (⟨1, ![16]⟩ : Shape).Idx → BitVec 32

variable (A : Args)

/-- A device's page among all. -/
def pageOf (z : Fin 4) (l : Fin 128) : Fin 512 := ⟨128 * z.val + l.val, by have := z.isLt; have := l.isLt; omega⟩

/-- The score of a query against a row, for one head. -/
def scoreOf (b h : Fin 16) (z : Fin 4) (i : Row) : EReal :=
  (∑ d : Fin 64, A.Q (ix4 b 0 h d) * A.K (ix4 (pageOf z i.1) i.2 h d)) * scale

/-- One value of a row. -/
def valueOf (h : Fin 16) (d : Fin 64) (z : Fin 4) (i : Row) : EReal := A.V (ix4 (pageOf z i.1) i.2 h d)

/-- Slot `j` of sequence `b` is live. -/
def liveAt (b : Fin 16) (j : Fin 128) : Prop := (j.val : ℤ) < (A.lens (ix1 b)).toInt

instance (b : Fin 16) : DecidablePred (liveAt A b) := fun _ => Int.decLt _ _

/-- The page that slot `j` of sequence `b` names: its device and its place there. -/
def names (b : Fin 16) (j : Fin 128) : Fin 4 × Fin 128 :=
  (⟨(A.bt (ix2 b j)).toNat / 128 % 4, Nat.mod_lt _ (by decide)⟩, ⟨(A.bt (ix2 b j)).toNat % 128, Nat.mod_lt _ (by decide)⟩)

/-- What the claim asks of the arguments: each sequence has a live slot, each live slot names a page, and each row that a
    live slot names scores at least the threshold and below plus infinity. -/
structure Good : Prop where
  someLive : ∀ b, ∃ j, liveAt A b j
  inPages : ∀ b j, liveAt A b j → (A.bt (ix2 b j)).toNat < 512
  bounded : ∀ b h, Bounded (scoreOf A b h) (liveAt A b) (names A b) thresh

/-- What every device's result holds at an index. -/
def result (b h : Fin 16) (d : Fin 64) : EReal :=
  combined (scoreOf A b h) (valueOf A h d) (liveAt A b) (names A b) floor thresh

theorem word_lt {j : Fin 128} {n : BitVec 32} : IntOp.cmpi .slt (BitVec.ofNat 32 j.val) n = BitVec.ofBool (decide ((j.val : ℤ) < n.toInt)) := by
  have hj := j.isLt
  have h : (BitVec.ofNat 32 j.val).toInt = (j.val : ℤ) := by
    rw [BitVec.toInt_eq_toNat_of_lt (by rw [BitVec.toNat_ofNat]; omega), BitVec.toNat_ofNat]; omega
  show BitVec.ofBool (decide _) = _
  rw [h]

end Cert.Value

end
-- ==== Proof.Value.Parts.lean ====
/- What a device computes for one query of one head, read at an index over the extended reals: how many live slots name each
   of its rows, its largest score, its sum of weights and its weighted sum of values. -/
module

public import proofs.«01_k».proof.Proof.Value.Attend
public import proofs.«01_k».proof.Proof.KernelIdeal.Contents

@[expose] public section

noncomputable section

namespace Cert.Value

open Cert.KernelIdeal Cert.KernelIdeal.Gen Cert.KernelIdeal.Paged
open Idealize.ShloMosaic Idealize.ShloMosaic.TcCoe
open scoped BigOperators

/-- Head `h`'s column `d`. -/
def col (h : Fin 16) (d : Fin 64) : Fin 1024 := ⟨64 * h.val + d.val, by have := h.isLt; have := d.isLt; omega⟩

/-- A device at place `z` has staged its share of the arguments. -/
structure Holds (A : Args) (z : Fin 4) (X : Staged Ideal) : Prop where
  q : ∀ b h d, X.q (ix2 b (col h d)) = A.Q (ix4 b 0 h d)
  k : ∀ i h d, X.k (ix2 (line i) (col h d)) = A.K (ix4 (pageOf z i.1) i.2 h d)
  v : ∀ i h d, X.v (ix2 (line i) (col h d)) = A.V (ix4 (pageOf z i.1) i.2 h d)
  bt : ∀ b j, X.bt (ix2 b j) = A.bt (ix2 b j)
  lens : ∀ b, X.lens (ix2 b 0) = A.lens (ix1 b)

/-! ## The loads -/

theorem colQ_at (x : Vec Ideal S16x1024 .f32) (h b : Fin 16) (d : Fin 64) : colQ x h (ix2 b d) = x (ix2 b (col h d)) := by
  refine congrArg x (funext fun a => Fin.ext ?_)
  match a with
  | 0 => show 0 + 1 * b.val = b.val; omega
  | 1 => show 64 * h.val + 1 * d.val = 64 * h.val + d.val; omega
theorem colK_at (x : Vec Ideal S2048x1024 .f32) (h : Fin 16) (r : Fin 2048) (d : Fin 64) : colK x h (ix2 r d) = x (ix2 r (col h d)) := by
  refine congrArg x (funext fun a => Fin.ext ?_)
  match a with
  | 0 => show 0 + 1 * r.val = r.val; omega
  | 1 => show 64 * h.val + 1 * d.val = 64 * h.val + d.val; omega
theorem colV_at (x : Vec Ideal S2048x1024 .f32) (h : Fin 16) (r : Fin 2048) (d : Fin 64) : colV x h (ix2 r d) = x (ix2 r (col h d)) :=
  colK_at x h r d
theorem ldLens_at (x : Vec Ideal S16x1 .i32) (b : Fin 16) : ldLens x (ix2 b 0) = x (ix2 b 0) := by
  refine congrArg x (funext fun a => Fin.ext ?_)
  match a with
  | 0 => show 0 + 1 * b.val = b.val; omega
  | 1 => rfl
theorem ldBt_at (x : Vec Ideal S16x128 .i32) (b : Fin 16) (j : Fin 128) : ldBt x (ix2 b j) = x (ix2 b j) := by
  refine congrArg x (funext fun a => Fin.ext ?_)
  match a with
  | 0 => show 0 + 1 * b.val = b.val; omega
  | 1 => show 0 + 1 * j.val = j.val; omega

/-! ## The weights -/

theorem zWord_eq (c : Dev nD) : Scalar.muli (zWord c) 128#32 = BitVec.ofNat 32 (128 * (zOf c).val) := by
  revert c; decide +kernel

/-- A truth value made a number. -/
theorem bit_real (P : Prop) [Decidable P] :
    (((BitVec.setWidth 32 (BitVec.ofBool (decide P))).toInt : ℝ) : EReal) = if P then 1 else 0 := by
  by_cases h : P
  · rw [if_pos h, decide_eq_true h, show (BitVec.setWidth 32 (BitVec.ofBool true)).toInt = 1 from by decide, Int.cast_one, EReal.coe_one]
  · rw [if_neg h, decide_eq_false h, show (BitVec.setWidth 32 (BitVec.ofBool false)).toInt = 0 from by decide, Int.cast_zero, EReal.coe_zero]

theorem and_bits (P R : Prop) [Decidable P] [Decidable R] :
    IntOp.andi (BitVec.ofBool (decide P)) (BitVec.ofBool (decide R)) = BitVec.ofBool (decide (R ∧ P)) := by
  by_cases h : P <;> by_cases h' : R <;> simp only [h, h', decide_true, decide_false, and_true, and_false] <;> rfl

/-- A choice on a truth value. -/
theorem select_of (P : Prop) [Decidable P] (x y : EReal) : Scalar.select (BitVec.ofBool (decide P)) x y = if P then x else y := by
  by_cases h : P
  · rw [if_pos h, decide_eq_true h]; rfl
  · rw [if_neg h, decide_eq_false h]; rfl

theorem names_iff (A : Args) {b : Fin 16} {j : Fin 128} (hin : (A.bt (ix2 b j)).toNat < 512) (z : Fin 4) (l : Fin 128) :
    A.bt (ix2 b j) = IntOp.addi (BitVec.ofNat 32 (128 * z.val)) (BitVec.ofNat 32 l.val) ↔ names A b j = (z, l) := by
  have hz := z.isLt
  have hl := l.isLt
  have e : (IntOp.addi (BitVec.ofNat 32 (128 * z.val)) (BitVec.ofNat 32 l.val)).toNat = 128 * z.val + l.val := by
    show (BitVec.ofNat 32 (128 * z.val) + BitVec.ofNat 32 l.val).toNat = _
    rw [BitVec.toNat_add, BitVec.toNat_ofNat, BitVec.toNat_ofNat]; omega
  rw [← BitVec.toNat_inj, e, names, Prod.mk.injEq, Fin.ext_iff, Fin.ext_iff]
  show _ ↔ (A.bt (ix2 b j)).toNat / 128 % 4 = z.val ∧ (A.bt (ix2 b j)).toNat % 128 = l.val
  omega

variable {A : Args} {X : Dev nD → Staged Ideal} {c : Dev nD}

/-- A row's weight is how many live slots name its page. -/
theorem wOf_at (hX : Holds A (zOf c) (X c)) (hA : Good A) (b : Fin 16) (i : Row) :
    wOf X c (ix2 b (line i)) = cnt (liveAt A b) (names A b) (zOf c) i := by
  have hl : (line i).val / 16 = i.1.val := congrArg (fun i => i.1.val) (line.left_inv i)
  pointwise [wOf, weight, k0_pay1, k0_pay2, k0_pay3]
  unfold cnt
  refine Finset.sum_congr rfl fun j _ => ?_
  rw [hl, zWord_eq, ldBt_at, ldLens_at, hX.bt, hX.lens, word_lt, WordCmp.cmpi_eq_eq, and_bits]
  refine (bit_real _).trans (if_congr (and_congr_right fun hlive => ?_) rfl rfl)
  exact names_iff A (hA.inPages b j hlive) (zOf c) i.1

/-- A row is named where its weight is above nothing. -/
theorem nOf_at (hX : Holds A (zOf c) (X c)) (hA : Good A) (b : Fin 16) (i : Row) :
    nOf X c (ix2 b (line i)) = BitVec.ofBool (decide (0 < cnt (liveAt A b) (names A b) (zOf c) i)) := by
  rw [← wOf_at hX hA b i]
  pointwise [nOf, Paged.named, k0_pay4]
  rfl

/-! ## The parts -/

theorem score_at (hX : Holds A (zOf c) (X c)) (b h : Fin 16) (i : Row) :
    (∑ d : Fin 64, colQ (X c).q h (ix2 b d) * colK (X c).k h (ix2 (line i) d)) * Ideal.ofBits .f32 0x3E000000#32
      = scoreOf A b h (zOf c) i := by
  unfold scoreOf
  simp only [colQ_at, colK_at, hX.q, hX.k]
  rfl

/-- The largest score of a head. -/
theorem max_at (hX : Holds A (zOf c) (X c)) (hA : Good A) (b h : Fin 16) :
    k0_pay15 (nOf X c) (colQ (X c).q h) (colK (X c).k h) (ix1 b)
      = top (scoreOf A b h) (liveAt A b) (names A b) floor (zOf c) := by
  pointwise [k0_pay15, k0_pay14]
  rw [ofBits_bot, fold_line]
  unfold top
  refine congrArg _ (funext fun i => ?_)
  rw [score_at hX, nOf_at hX hA]
  exact select_of _ _ _

/-- A row's weighted exponential. -/
theorem wt_at (hX : Holds A (zOf c) (X c)) (hA : Good A) (b h : Fin 16) (i : Row) :
    k0_pay16 (wOf X c) (nOf X c) (colQ (X c).q h) (colK (X c).k h) (ix2 b (line i))
      = wt (scoreOf A b h) (liveAt A b) (names A b) floor thresh (zOf c) i := by
  pointwise [k0_pay16, k0_pay14]
  rw [max_at hX hA, score_at hX, wOf_at hX hA]
  rfl

theorem partM_at (hX : Holds A (zOf c) (X c)) (hA : Good A) (b h : Fin 16) :
    partM X c h (ix4 0 b 0 0) = top (scoreOf A b h) (liveAt A b) (names A b) floor (zOf c) := by
  rw [← max_at hX hA]
  pointwise [partM, headM, k0_pay18]

theorem partL_at (hX : Holds A (zOf c) (X c)) (hA : Good A) (b h : Fin 16) :
    partL X c h (ix4 0 b 0 0) = sumL (scoreOf A b h) (liveAt A b) (names A b) floor thresh (zOf c) := by
  pointwise [partL, headL, k0_pay19]
  rw [sum_line]
  exact Finset.sum_congr rfl fun i _ => wt_at hX hA b h i

theorem partU_at (hX : Holds A (zOf c) (X c)) (hA : Good A) (b h : Fin 16) (d : Fin 64) :
    partU X c h (ix4 0 b 0 d)
      = sumU (scoreOf A b h) (valueOf A h d) (liveAt A b) (names A b) floor thresh (zOf c) := by
  pointwise [partU, headU, k0_pay17, k0_pay13]
  rw [sum_line]
  refine Finset.sum_congr rfl fun i _ => ?_
  rw [wt_at hX hA b h i, colV_at, hX.v]
  rfl

end Cert.Value

end
-- ==== Proof.Value.Combine.lean ====
/- The combination: every device of a group ends with the same array, whose entries are the four devices' parts put together. -/
module

public import proofs.«01_k».proof.Proof.Value.Parts
public import proofs.«01_k».proof.Proof.KernelIdeal.Run

@[expose] public section

noncomputable section

namespace Cert.Value

open Cert.KernelIdeal Cert.KernelIdeal.Gen Cert.KernelIdeal.Paged
open Idealize.ShloMosaic Idealize.ShloMosaic.TcCoe
open scoped BigOperators

/-! ## The gather buffer, read back -/

variable (X : Dev nD → Staged Ideal) (c : Dev nD)

theorem read_box (g : S4x16x16x66.Idx → EReal) {off size : Fin 4 → ℕ} (inb : ∀ a, off a + size a ≤ S4x16x16x66.size a)
    (x : (Rect.unit (s := S4x16x16x66) off size inb).shape.Idx) (i : S4x16x16x66.Idx) (hx : ∀ a, (i a).val = off a + (x a).val) :
    commM.view.readAt (Elt Ideal) (Rect.unit (s := S4x16x16x66) off size inb).toLoadRect g x = g i := by
  refine congrArg g (funext fun a => Fin.ext ?_)
  show off a + 1 * (x a).val = _
  rw [hx a, Nat.one_mul]

theorem row_U (p : Dev nD) (b h : Fin 16) (d : Fin 64) (n : ℕ) (hn : n < 66) (e : n = d.val) :
    row X p b h ⟨n, hn⟩ = partU X p h (ix4 0 b 0 d) := by
  subst e
  rw [ix4_eq_valueIdx 0 b 0 d]
  exact dif_pos d.isLt
theorem row_M (p : Dev nD) (b h : Fin 16) (n : ℕ) (hn : n < 66) (e : n = 64) : row X p b h ⟨n, hn⟩ = partM X p h (ix4 0 b 0 0) := by
  rw [ix4_eq_valueIdx 0 b 0 0]
  exact (dif_neg (by show ¬ n < 64; omega)).trans (if_pos e)
theorem row_L (p : Dev nD) (b h : Fin 16) (n : ℕ) (hn : n < 66) (e : n = 65) : row X p b h ⟨n, hn⟩ = partL X p h (ix4 0 b 0 0) := by
  rw [ix4_eq_valueIdx 0 b 0 0]
  exact (dif_neg (by show ¬ n < 64; omega)).trans (if_neg (by show ¬ n = 64; omega))

/-- A place in the gather buffer. -/
def place (z : Fin 4) (b h : Fin 16) (n : ℕ) (hn : n < 66) : S4x16x16x66.Idx := ix4 z b h ⟨n, hn⟩

theorem allU_at (z : Fin 4) (b h : Fin 16) (d : Fin 64) : allU (gath X c) (ix4 z b h d) = partU X (peer c z) h (ix4 0 b 0 d) := by
  refine (read_box (gath X c) _ (ix4 z b h d) (place z b h d.val (by have := d.isLt; omega)) fun a => ?_).trans
    (row_U X (peer c z) b h d d.val _ rfl)
  match a with
  | 0 => exact (Nat.zero_add _).symm
  | 1 => exact (Nat.zero_add _).symm
  | 2 => exact (Nat.zero_add _).symm
  | 3 => exact (Nat.zero_add _).symm

theorem allM_at (z : Fin 4) (b h : Fin 16) : allM (gath X c) (ix4 z b h 0) = partM X (peer c z) h (ix4 0 b 0 0) := by
  refine (read_box (gath X c) _ (ix4 z b h 0) (place z b h 64 (by decide)) fun a => ?_).trans
    (row_M X (peer c z) b h 64 (by decide) rfl)
  match a with
  | 0 => exact (Nat.zero_add _).symm
  | 1 => exact (Nat.zero_add _).symm
  | 2 => exact (Nat.zero_add _).symm
  | 3 => rfl

theorem allL_at (z : Fin 4) (b h : Fin 16) : allL (gath X c) (ix4 z b h 0) = partL X (peer c z) h (ix4 0 b 0 0) := by
  refine (read_box (gath X c) _ (ix4 z b h 0) (place z b h 65 (by decide)) fun a => ?_).trans
    (row_L X (peer c z) b h 65 (by decide) rfl)
  match a with
  | 0 => exact (Nat.zero_add _).symm
  | 1 => exact (Nat.zero_add _).symm
  | 2 => exact (Nat.zero_add _).symm
  | 3 => rfl

variable {X c} {A : Args}

/-- What a device's result holds, once every device of its group has staged its share. -/
theorem outOf_at (hX : ∀ z, Holds A z (X (peer c z))) (hA : Good A) (b h : Fin 16) (d : Fin 64) :
    outOf X c (ix3 b h d) = result A b h d := by
  have hX' : ∀ z, Holds A (zOf (peer c z)) (X (peer c z)) := fun z => by rw [zOf_peer]; exact hX z
  have eM : ∀ z, allM (gath X c) (ix4 z b h 0) = top (scoreOf A b h) (liveAt A b) (names A b) floor z := fun z => by
    rw [allM_at, partM_at (hX' z) hA, zOf_peer]
  have eL : ∀ z, allL (gath X c) (ix4 z b h 0) = sumL (scoreOf A b h) (liveAt A b) (names A b) floor thresh z := fun z => by
    rw [allL_at, partL_at (hX' z) hA, zOf_peer]
  have eU : ∀ z, allU (gath X c) (ix4 z b h d)
      = sumU (scoreOf A b h) (valueOf A h d) (liveAt A b) (names A b) floor thresh z := fun z => by
    rw [allU_at, partU_at (hX' z) hA, zOf_peer]
  pointwise [outOf, k0_pay127]
  simp only [eM, eL, eU]
  rw [ofBits_bot, fold_sup]
  rfl

/-! ## What the devices stage -/

variable (m : (ℓ : Loc nD τ sig) → Buf (Elt Ideal) ℓ)

/-- What the reshape of an array into an operand leaves there. -/
theorem staged_q (c : Dev nD) : (staged m c).q = shapeCast S16x1024 (m ((c : Thread nD τ).loc main_arg0)) shapeCasts_S16x1x16x64_S16x1024 := by
  show V m c main_v1 = _
  simp only [V, V0, hostOps0, List.flatten_cons, List.flatten_nil, List.append_nil]
  after_results_simp <;> rfl
theorem staged_k (c : Dev nD) : (staged m c).k = shapeCast S2048x1024 (m ((c : Thread nD τ).loc main_arg1)) shapeCasts_S128x16x16x64_S2048x1024 := by
  show V m c main_v2 = _
  simp only [V, V0, hostOps0, List.flatten_cons, List.flatten_nil, List.append_nil]
  after_results_simp <;> rfl
theorem staged_v (c : Dev nD) : (staged m c).v = shapeCast S2048x1024 (m ((c : Thread nD τ).loc main_arg2)) shapeCasts_S128x16x16x64_S2048x1024 := by
  show V m c main_v3 = _
  simp only [V, V0, hostOps0, List.flatten_cons, List.flatten_nil, List.append_nil]
  after_results_simp <;> rfl
theorem staged_lens (c : Dev nD) : (staged m c).lens = shapeCast S16x1 (m ((c : Thread nD τ).loc main_arg4)) shapeCasts_S16_S16x1 := by
  show V m c main_v4 = _
  simp only [V, V0, hostOps0, List.flatten_cons, List.flatten_nil, List.append_nil]
  after_results_simp <;> rfl

/-- The reshapes into operands, at an index. -/
theorem cast_q (x : FVec Ideal S16x1x16x64 .f32) (b : Fin 16) (t : Fin 1024) :
    shapeCast S16x1024 x shapeCasts_S16x1x16x64_S16x1024 (ix2 b t) = x (ix4 b 0 ⟨t.val / 64, by omega⟩ ⟨t.val % 64, by omega⟩) := by
  pointwise
theorem cast_k (x : FVec Ideal S128x16x16x64 .f32) (r : Fin 2048) (t : Fin 1024) :
    shapeCast S2048x1024 x shapeCasts_S128x16x16x64_S2048x1024 (ix2 r t)
      = x (ix4 ⟨r.val / 16, by omega⟩ ⟨r.val % 16, by omega⟩ ⟨t.val / 64, by omega⟩ ⟨t.val % 64, by omega⟩) := by
  pointwise
theorem cast_lens (x : IVec S16 32) (b : Fin 16) : shapeCast S16x1 x shapeCasts_S16_S16x1 (ix2 b 0) = x (ix1 b) := by
  pointwise

theorem col_div (h : Fin 16) (d : Fin 64) (p : (col h d).val / 64 < 16) : (⟨(col h d).val / 64, p⟩ : Fin 16) = h :=
  Fin.ext (by have := d.isLt; show (64 * h.val + d.val) / 64 = h.val; omega)
theorem col_mod (h : Fin 16) (d : Fin 64) (p : (col h d).val % 64 < 64) : (⟨(col h d).val % 64, p⟩ : Fin 64) = d :=
  Fin.ext (by have := d.isLt; show (64 * h.val + d.val) % 64 = d.val; omega)
theorem line_div (i : Row) (p : (line i).val / 16 < 128) : (⟨(line i).val / 16, p⟩ : Fin 128) = i.1 := congrArg Prod.fst (line.left_inv i)
theorem line_mod (i : Row) (p : (line i).val % 16 < 16) : (⟨(line i).val % 16, p⟩ : Fin 16) = i.2 := congrArg Prod.snd (line.left_inv i)

/-- A device that starts with its share of the arguments stages its share. -/
theorem staged_holds (c : Dev nD)
    (hQ : ∀ b h d, m ((c : Thread nD τ).loc main_arg0) (ix4 b 0 h d) = A.Q (ix4 b 0 h d))
    (hK : ∀ l o h d, m ((c : Thread nD τ).loc main_arg1) (ix4 l o h d) = A.K (ix4 (pageOf (zOf c) l) o h d))
    (hV : ∀ l o h d, m ((c : Thread nD τ).loc main_arg2) (ix4 l o h d) = A.V (ix4 (pageOf (zOf c) l) o h d))
    (hbt : ∀ b j, m ((c : Thread nD τ).loc main_arg3) (ix2 b j) = A.bt (ix2 b j))
    (hlens : ∀ b, m ((c : Thread nD τ).loc main_arg4) (ix1 b) = A.lens (ix1 b)) : Holds A (zOf c) (staged m c) where
  q b h d := by rw [staged_q, cast_q, col_div, col_mod, ← hQ]
  k i h d := by rw [staged_k, cast_k, col_div, col_mod, line_div, line_mod, ← hK]
  v i h d := by rw [staged_v, cast_k, col_div, col_mod, line_div, line_mod, ← hV]
  bt b j := (congrFun (V_main_arg3 m c) _).trans (hbt b j)
  lens b := by rw [staged_lens, cast_lens, ← hlens]

end Cert.Value

end
-- ==== Proof.Value.Reference.lean ====
/- What the reference computes, read at an index: it gathers each slot's page, scores the query against every row of every
   slot, masks the rows of slots that are not live, and applies the softmax over all rows to the values. -/
module

public import proofs.«01_k».proof.Proof.Value.Attend
public import proofs.«01_k».proof.Proof.Gen.ReferenceIdeal.Run

@[expose] public section

noncomputable section

namespace Cert.Value

open Cert.ReferenceIdeal Cert.ReferenceIdeal.Gen
open Idealize.ShloMosaic Idealize.ShloMosaic.TcCoe
open scoped BigOperators

/-! ## The reference in pieces -/

/-- The page numbers the reference gathers at. -/
def refPages (bt : IVec S16x128 32) : IVec S16x128x1 32 :=
  broadcastInDim S16x128x1 ![0, 1] bcast_S16x128_S16x128x1_0_1
    (select (cmpi .slt bt (broadcastInDim S16x128 ![] bcast_S_S16x128 (constantI S_ 32 0#32)))
      (addi bt (broadcastInDim S16x128 ![] bcast_S_S16x128 (constantI S_ 32 512#32))) bt)

/-- The gathered rows, in a line for each sequence. -/
def refRows (x : FVec Ideal S512x16x16x64 .f32) (bt : IVec S16x128 32) : FVec Ideal S16x2048x16x64 .f32 :=
  shapeCast S16x2048x16x64 (Host.gather gather_S512x16x16x64_S16x128x1_S16x128x16x16x64_234_0_n_n_0_2_1161664 x (refPages bt))
    shapeCasts_S16x128x16x16x64_S16x2048x16x64

/-- The slot of each row. -/
def refSlot : IVec S2048 32 :=
  select (andi (cmpi .ne (signi (iotaInDim S2048 32 0)) (broadcastInDim S2048 ![] bcast_S_S2048 (signi (id (constantI S_ 32 16#32)))))
      (cmpi .ne (Host.remsi (iotaInDim S2048 32 0) (broadcastInDim S2048 ![] bcast_S_S2048 (id (constantI S_ 32 16#32))))
        (broadcastInDim S2048 ![] bcast_S_S2048 (constantI S_ 32 0#32))))
    (subi (Host.divsi (iotaInDim S2048 32 0) (broadcastInDim S2048 ![] bcast_S_S2048 (id (constantI S_ 32 16#32))))
      (broadcastInDim S2048 ![] bcast_S_S2048 (constantI S_ 32 1#32)))
    (Host.divsi (iotaInDim S2048 32 0) (broadcastInDim S2048 ![] bcast_S_S2048 (id (constantI S_ 32 16#32))))

/-- Which rows are of a live slot. -/
def refLive (lens : IVec S16 32) : IVec S16x2048 1 :=
  cmpi .slt (broadcastInDim S16x2048 ![0, 1] bcast_S1x2048_S16x2048_0_1 (broadcastInDim S1x2048 ![1] bcast_S2048_S1x2048_1 refSlot))
    (broadcastInDim S16x2048 ![0, 1] bcast_S16x1_S16x2048_0_1 (broadcastInDim S16x1 ![0] bcast_S16_S16x1_0 lens))

/-- The scores, minus infinity at the rows of slots that are not live. -/
def refScores (q : FVec Ideal S16x1x16x64 .f32) (k : FVec Ideal S16x2048x16x64 .f32) (lv : IVec S16x2048 1) : FVec Ideal S16x16x1x2048 .f32 :=
  select (broadcastInDim S16x16x1x2048 ![0, 1, 2, 3] bcast_S16x1x1x2048_S16x16x1x2048_0_1_2_3
      (broadcastInDim S16x1x1x2048 ![0, 3] bcast_S16x2048_S16x1x1x2048_0_3 lv))
    (mulf (Host.dotGeneral dot_S16x1x16x64_S16x2048x16x64_S16x16x1x2048_3_3_1_1_02_02 none q k)
      (broadcastInDim S16x16x1x2048 ![] bcast_S_S16x16x1x2048 (constant S_ .f32 0x3E000000#32)))
    (broadcastInDim S16x16x1x2048 ![] bcast_S_S16x16x1x2048 (id (constant S_ .f32 0xFF800000#32)))

/-- The largest score of each query. -/
def refMax (s : FVec Ideal S16x16x1x2048 .f32) : FVec Ideal S16x16x1 .f32 :=
  Host.reduce FloatOps.maximumf s (constant S_ .f32 0xFF800000#32) reducesTo_S16x16x1x2048_S16x16x1_d3 h_S_

/-- The exponentials of the scores, relative to the largest. -/
def refExp (s : FVec Ideal S16x16x1x2048 .f32) : FVec Ideal S16x16x1x2048 .f32 :=
  Host.exp (subf s (broadcastInDim S16x16x1x2048 ![0, 1, 2, 3] bcast_S16x16x1x1_S16x16x1x2048_0_1_2_3
    (broadcastInDim S16x16x1x1 ![0, 1, 2] bcast_S16x16x1_S16x16x1x1_0_1_2 (refMax s))))

/-- Their quotients by their sum, applied to the values. -/
def refOut (v : FVec Ideal S16x2048x16x64 .f32) (e : FVec Ideal S16x16x1x2048 .f32) : FVec Ideal S16x1x16x64 .f32 :=
  transpose S16x1x16x64 [0, 3, 1, 2] (Host.dotGeneral dot_S16x2048x16x64_S16x16x1x2048_S16x16x64x1_1_3_3_2_02_01 none v
    (Host.divf e (broadcastInDim S16x16x1x2048 ![0, 1, 2, 3] bcast_S16x16x1x1_S16x16x1x2048_0_1_2_3
      (broadcastInDim S16x16x1x1 ![0, 1, 2] bcast_S16x16x1_S16x16x1x1_0_1_2
        (Host.reduceAdd e (constant S_ .f32 0x00000000#32) reducesTo_S16x16x1x2048_S16x16x1_d3 h_S_)))))
    transposes_S16x16x64x1_S16x1x16x64_0_3_1_2

/-- The printed result is the pieces put together. -/
theorem res_eq (m : (ℓ : Loc nD τ sig) → Buf (Elt Ideal) ℓ) (c : Dev nD) : Cert.ReferenceIdeal.Value.res_main_v38 m c
    = refOut (refRows (m ((c.tc : Thread nD τ).loc main_arg2)) (m ((c.tc : Thread nD τ).loc main_arg3)))
        (refExp (refScores (m ((c.tc : Thread nD τ).loc main_arg0))
          (refRows (m ((c.tc : Thread nD τ).loc main_arg1)) (m ((c.tc : Thread nD τ).loc main_arg3)))
          (refLive (m ((c.tc : Thread nD τ).loc main_arg4))))) := rfl

/-! ## The pieces at an index -/

theorem refSlot_at (r : Fin 2048) : refSlot (ix1 r) = BitVec.ofNat 32 (r.val / 16) := by
  pointwise [refSlot]
  revert r
  decide +kernel

theorem refLive_at (lens : IVec S16 32) (b : Fin 16) (r : Fin 2048) :
    refLive lens (ix2 b r) = IntOp.cmpi .slt (BitVec.ofNat 32 (r.val / 16)) (lens (ix1 b)) := by
  pointwise [refLive, refSlot_at]

theorem refPages_at (bt : IVec S16x128 32) (b : Fin 16) (j : Fin 128) (h : (bt (ix2 b j)).toNat < 512) :
    refPages bt (ix3 b j 0) = bt (ix2 b j) := by
  pointwise [refPages]
  have hs : IntOp.cmpi .slt (bt (ix2 b j)) 0#32 = 0#1 := by
    rw [WordCmp.cmpi_slt_zero, decide_eq_false (by omega)]; rfl
  rw [hs]
  rfl

theorem gather_at (x : FVec Ideal S512x16x16x64 .f32) (idx : IVec S16x128x1 32) (b : Fin 16) (j : Fin 128) (o h : Fin 16) (e : Fin 64) :
    Host.gather gather_S512x16x16x64_S16x128x1_S16x128x16x16x64_234_0_n_n_0_2_1161664 x idx (ix5 b j o h e)
      = x (ix4 ⟨min (idx (ix3 b j 0)).toInt.toNat 511, by omega⟩ o h e) := by
  unfold Host.gather
  refine congrArg x (funext fun a => Fin.ext ?_)
  match a with
  | 0 =>
    show min (idx (GatherDims.siIdx _ _ _)).toInt.toNat 511 = min (idx (ix3 b j 0)).toInt.toNat 511
    congr 4
    funext a'
    match a' with
    | 0 => rfl
    | 1 => rfl
    | 2 => rfl
  | 1 => exact Nat.zero_add _
  | 2 => exact Nat.zero_add _
  | 3 => exact Nat.zero_add _

theorem refRows_at (x : FVec Ideal S512x16x16x64 .f32) (bt : IVec S16x128 32) (b : Fin 16) (r : Fin 2048) (h : Fin 16) (d : Fin 64) :
    refRows x bt (ix4 b r h d) = x (ix4 ⟨min (refPages bt (ix3 b ⟨r.val / 16, by omega⟩ 0)).toInt.toNat 511, by omega⟩
      ⟨r.val % 16, by omega⟩ h d) := by
  pointwise [refRows]
  exact gather_at _ _ _ _ _ _ _

theorem refScores_at (q : FVec Ideal S16x1x16x64 .f32) (k : FVec Ideal S16x2048x16x64 .f32) (lv : IVec S16x2048 1)
    (b h : Fin 16) (r : Fin 2048) :
    refScores q k lv (ix4 b h 0 r) = Scalar.select (lv (ix2 b r)) ((∑ d : Fin 64, q (ix4 b 0 h d) * k (ix4 b r h d)) * scale) ⊥ := by
  rw [← ofBits_bot]
  pointwise [refScores]
  rfl

theorem refMax_at (s : FVec Ideal S16x16x1x2048 .f32) (b h : Fin 16) :
    refMax s (ix3 b h 0) = Finset.univ.sup fun i : Row => s (ix4 b h 0 (line i)) := by
  rw [← fold_line fun r => s (ix4 b h 0 r), ← ofBits_bot]
  pointwise [refMax]

theorem refExp_at (s : FVec Ideal S16x16x1x2048 .f32) (b h : Fin 16) (r : Fin 2048) :
    refExp s (ix4 b h 0 r) = Ideal.exp (s (ix4 b h 0 r) - Finset.univ.sup fun i : Row => s (ix4 b h 0 (line i))) := by
  rw [← refMax_at]
  pointwise [refExp]

theorem refOut_at (v : FVec Ideal S16x2048x16x64 .f32) (e : FVec Ideal S16x16x1x2048 .f32) (b h : Fin 16) (d : Fin 64) :
    refOut v e (ix4 b 0 h d) = ∑ i : Row, v (ix4 b (line i) h d) * Ideal.div (e (ix4 b h 0 (line i))) (∑ t : Row, e (ix4 b h 0 (line t))) := by
  rw [← sum_line fun r => v (ix4 b r h d) * Ideal.div (e (ix4 b h 0 r)) (∑ t : Row, e (ix4 b h 0 (line t))), ← sum_line fun r => e (ix4 b h 0 r)]
  pointwise [refOut]

/-- The reference's result: the softmax over the slots, applied to the values, wherever the arguments are good. -/
theorem res_at (m : (ℓ : Loc nD τ sig) → Buf (Elt Ideal) ℓ) (c : Dev nD) (A : Args)
    (hQ : m ((c.tc : Thread nD τ).loc main_arg0) = A.Q) (hK : m ((c.tc : Thread nD τ).loc main_arg1) = A.K)
    (hV : m ((c.tc : Thread nD τ).loc main_arg2) = A.V) (hbt : m ((c.tc : Thread nD τ).loc main_arg3) = A.bt)
    (hlens : m ((c.tc : Thread nD τ).loc main_arg4) = A.lens) (hA : Good A) (b h : Fin 16) (d : Fin 64) :
    Cert.ReferenceIdeal.Value.res_main_v38 m c (ix4 b 0 h d) = result A b h d := by
  have hrow : ∀ (x : FVec Ideal S512x16x16x64 .f32) (t : Row) (e : Fin 64), liveAt A b t.1 →
      refRows x A.bt (ix4 b (line t) h e) = x (ix4 (pageOf (names A b t.1).1 (names A b t.1).2) t.2 h e) := by
    intro x t e ht
    have hin := hA.inPages b t.1 ht
    have h1 : (⟨(line t).val / 16, by omega⟩ : Fin 128) = t.1 := congrArg Prod.fst (line.left_inv t)
    have h2 : (⟨(line t).val % 16, by omega⟩ : Fin 16) = t.2 := congrArg Prod.snd (line.left_inv t)
    rw [refRows_at]
    rw [h2]
    refine congrArg x (congrArg (fun p => ix4 p t.2 h e) (Fin.ext ?_))
    show min (refPages A.bt (ix3 b ⟨(line t).val / 16, _⟩ 0)).toInt.toNat 511
      = 128 * ((A.bt (ix2 b t.1)).toNat / 128 % 4) + (A.bt (ix2 b t.1)).toNat % 128
    rw [h1, refPages_at _ _ _ hin, BitVec.toInt_eq_toNat_of_lt (by omega)]
    omega
  have hs : ∀ t : Row, refScores A.Q (refRows A.K A.bt) (refLive A.lens) (ix4 b h 0 (line t))
      = score (scoreOf A b h) (liveAt A b) (names A b) t := by
    intro t
    have h1 : (line t).val / 16 = t.1.val := congrArg (fun i => i.1.val) (line.left_inv t)
    rw [refScores_at, refLive_at, h1, word_lt]
    unfold score
    by_cases ht : liveAt A b t.1
    · rw [if_pos ht, show decide ((t.1.val : ℤ) < (A.lens (ix1 b)).toInt) = true from decide_eq_true ht]
      show (∑ e : Fin 64, A.Q (ix4 b 0 h e) * refRows A.K A.bt (ix4 b (line t) h e)) * scale = _
      simp only [hrow A.K t _ ht]
      rfl
    · rw [if_neg ht, show decide ((t.1.val : ℤ) < (A.lens (ix1 b)).toInt) = false from decide_eq_false ht]
      rfl
  have hp : ∀ t : Row, refExp (refScores A.Q (refRows A.K A.bt) (refLive A.lens)) (ix4 b h 0 (line t))
      = prob (scoreOf A b h) (liveAt A b) (names A b) t := by
    intro t
    rw [refExp_at]
    simp only [hs]
    rfl
  rw [res_eq, hQ, hK, hV, hbt, hlens, refOut_at]
  simp only [hp]
  unfold result
  exact (combined_eq (v := valueOf A h d) (hs := hA.bounded b h) (hlo := floor_ne_bot) (hlt := floor_lt) (hth := thresh_lt_top)
    (hex := hA.someLive b) (w := fun t => refRows A.V A.bt (ix4 b (line t) h d)) (hw := fun t ht => hrow A.V t d ht)).symm

end Cert.Value

end
-- ==== Proof.Value.Pre.lean ====
/- The precondition, read back: what it says of one device's arrays. -/
module

public import proofs.«01_k».proof.Pre_attends_KernelIdeal
public import proofs.«01_k».proof.Pre_attends_ReferenceIdeal
public import proofs.«01_k».proof.Proof.Value.Attend
public import Idealize.ShloMosaic.Lib.ReduceAll
public import Idealize.ShloMosaic.Lib.Decide

@[expose] public section

noncomputable section

namespace Cert.Value.Pre

open Idealize.ShloMosaic
open scoped BigOperators

/-- The side conditions of the precondition's operations. -/
theorem facts : Cert.Pre_attends_KernelIdeal.Facts := by constructor <;> decide
/-- The same over the whole arrays' shapes. -/
theorem facts_whole : Cert.Pre_attends_ReferenceIdeal.Facts := by constructor <;> decide

open Cert.Pre_attends_KernelIdeal Cert.Pre_attends_KernelIdeal.Facts

variable [Facts]

/-- Which slots are live. -/
def liveW (lens : IVec S16 32) : IVec S16x128 1 :=
  cmpi .slt (iotaInDim S16x128 32 1) (broadcastInDim S16x128 ![0, 1] bcast_S16x1_S16x128_0_1 (broadcastInDim S16x1 ![0] bcast_S16_S16x1_0 lens))

/-- Which live slots name which place on a device. -/
def namedW (bt : IVec S16x128 32) (lv : IVec S16x128 1) : IVec S16x128x128 1 :=
  andi (broadcastInDim S16x128x128 ![0, 1, 2] bcast_S16x128x1_S16x128x128_0_1_2 (broadcastInDim S16x128x1 ![0, 1] bcast_S16x128_S16x128x1_0_1 lv))
    (cmpi .eq (broadcastInDim S16x128x128 ![0, 1, 2] bcast_S16x128x1_S16x128x128_0_1_2
      (broadcastInDim S16x128x1 ![0, 1] bcast_S16x128_S16x128x1_0_1
        (andi bt (broadcastInDim S16x128 ![] bcast_S_S16x128 (constantI S_ 32 127#32)))))
      (iotaInDim S16x128x128 32 2))

/-- Which places no live slot names. -/
def idleW (nm : IVec S16x128x128 1) : IVec S16x128 1 :=
  Host.reduce IntOp.andi (noti nm) (constantI S_ 1 1#1) reducesTo_S16x128x128_S16x128_d1 h_S_

/-- The scores of the device's rows. -/
def scoreW (q : FVec Ideal S16x1x16x64 .f32) (k : FVec Ideal S128x16x16x64 .f32) : FVec Ideal S16x1x16x128x16 .f32 :=
  mulf (transpose S16x1x16x128x16 [3, 4, 0, 1, 2]
      (Host.dotGeneral dot_S128x16x16x64_S16x1x16x64_S16x128x16x16x1_3_3_01_01_2_2 none k q)
      transposes_S16x128x16x16x1_S16x1x16x128x16_3_4_0_1_2)
    (broadcastInDim S16x1x16x128x16 ![] bcast_S_S16x1x16x128x16 (constant S_ .f32 0x3E000000#32))

/-- A sequence is not empty. -/
def someW (lens : IVec S16 32) : IVec S16 1 := cmpi .sgt lens (broadcastInDim S16 ![] bcast_S_S16 (constantI S_ 32 0#32))

/-- A slot is dead or names a page. -/
def pagesW (bt : IVec S16x128 32) (lv : IVec S16x128 1) : IVec S16x128 1 :=
  ori (noti lv) (andi (cmpi .sge bt (broadcastInDim S16x128 ![] bcast_S_S16x128 (constantI S_ 32 0#32)))
    (cmpi .slt bt (broadcastInDim S16x128 ![] bcast_S_S16x128 (constantI S_ 32 512#32))))

/-- A row is unnamed or its score is within bounds. -/
def boundW (idle : IVec S16x128 1) (s : FVec Ideal S16x1x16x128x16 .f32) : IVec S16x1x16x128x16 1 :=
  ori (broadcastInDim S16x1x16x128x16 ![0, 1, 2, 3, 4] bcast_S16x1x1x128x1_S16x1x16x128x16_0_1_2_3_4
      (broadcastInDim S16x1x1x128x1 ![0, 3] bcast_S16x128_S16x1x1x128x1_0_3 idle))
    (andi (cmpf .oge s (broadcastInDim S16x1x16x128x16 ![] bcast_S_S16x1x16x128x16 (constant S_ .f32 0xEFA18F08#32)))
      (cmpf .olt s (broadcastInDim S16x1x16x128x16 ![] bcast_S_S16x1x16x128x16 (constant S_ .f32 0x7F800000#32))))

theorem fn_eq (q : FVec Ideal S16x1x16x64 .f32) (k v : FVec Ideal S128x16x16x64 .f32) (bt : IVec S16x128 32) (lens : IVec S16 32) :
    fn (F := Ideal) q k v bt lens = andi
      (andi (Host.reduce IntOp.andi (someW lens) (constantI S_ 1 1#1) reducesTo_S16_S_d0 h_S_)
        (Host.reduce IntOp.andi (pagesW bt (liveW lens)) (constantI S_ 1 1#1) reducesTo_S16x128_S_d0_1 h_S_))
      (Host.reduce IntOp.andi (boundW (idleW (namedW bt (liveW lens))) (scoreW q k)) (constantI S_ 1 1#1)
        reducesTo_S16x1x16x128x16_S_d0_1_2_3_4 h_S_) := rfl

theorem liveW_at (lens : IVec S16 32) (b : Fin 16) (j : Fin 128) :
    liveW lens (ix2 b j) = BitVec.ofBool (decide ((j.val : ℤ) < (lens (ix1 b)).toInt)) := by
  rw [← word_lt]
  pointwise [liveW]

theorem namedW_at (bt : IVec S16x128 32) (lv : IVec S16x128 1) (b : Fin 16) (j l : Fin 128) :
    namedW bt lv (ix3 b j l)
      = IntOp.andi (lv (ix2 b j)) (IntOp.cmpi .eq (IntOp.andi (bt (ix2 b j)) 127#32) (BitVec.ofNat 32 l.val)) := by
  pointwise [namedW]

theorem scoreW_at (q : FVec Ideal S16x1x16x64 .f32) (k : FVec Ideal S128x16x16x64 .f32) (b h o : Fin 16) (l : Fin 128) :
    scoreW q k (ix5 b 0 h l o) = (∑ d : Fin 64, k (ix4 l o h d) * q (ix4 b 0 h d)) * scale := by
  pointwise [scoreW]
  rfl

theorem someW_at (lens : IVec S16 32) (b : Fin 16) : someW lens (ix1 b) = IntOp.cmpi .sgt (lens (ix1 b)) 0#32 := by
  pointwise [someW]

theorem pagesW_at (bt : IVec S16x128 32) (lv : IVec S16x128 1) (b : Fin 16) (j : Fin 128) :
    pagesW bt lv (ix2 b j) = IntOp.ori (~~~ lv (ix2 b j))
      (IntOp.andi (IntOp.cmpi .sge (bt (ix2 b j)) 0#32) (IntOp.cmpi .slt (bt (ix2 b j)) 512#32)) := by
  pointwise [pagesW]

theorem boundW_at (idle : IVec S16x128 1) (s : FVec Ideal S16x1x16x128x16 .f32) (b h o : Fin 16) (l : Fin 128) :
    boundW idle s (ix5 b 0 h l o) = IntOp.ori (idle (ix2 b l))
      (IntOp.andi (BitVec.ofBool (decide (thresh ≤ s (ix5 b 0 h l o)))) (BitVec.ofBool (decide (s (ix5 b 0 h l o) < ⊤)))) := by
  rw [← ofBits_top]
  pointwise [boundW]
  rfl

/-- A place that a live slot names is not idle. -/
theorem idleW_at (nm : IVec S16x128x128 1) (b : Fin 16) (j l : Fin 128) (hn : nm (ix3 b j l) = 1#1) : idleW nm (ix2 b l) ≠ 1#1 := by
  intro e
  have h := Host.reduce_andi_eq_one (noti nm) (constantI S_ 1 1#1) reducesTo_S16x128x128_S16x128_d1 h_S_ (ix2 b l) e (ix3 b j l)
    (by funext a; fin_cases a <;> rfl)
  have h' : ~~~ nm (ix3 b j l) = 1#1 := h
  rw [hn] at h'
  exact absurd h' (by decide)

/-- What the precondition says of a device's arrays. -/
structure Says (q : FVec Ideal S16x1x16x64 .f32) (k : FVec Ideal S128x16x16x64 .f32) (bt : IVec S16x128 32) (lens : IVec S16 32) : Prop where
  some : ∀ b : Fin 16, 0 < (lens (ix1 b)).toInt
  pages : ∀ (b : Fin 16) (j : Fin 128), (j.val : ℤ) < (lens (ix1 b)).toInt → (bt (ix2 b j)).toNat < 512
  bound : ∀ (b h o : Fin 16) (j l : Fin 128), (j.val : ℤ) < (lens (ix1 b)).toInt → (bt (ix2 b j)).toNat % 128 = l.val →
    thresh ≤ (∑ d : Fin 64, k (ix4 l o h d) * q (ix4 b 0 h d)) * scale ∧ (∑ d : Fin 64, k (ix4 l o h d) * q (ix4 b 0 h d)) * scale < ⊤

instance : Subsingleton S_.Idx := ⟨fun _ _ => funext fun a => a.elim0⟩

theorem says_of (q : FVec Ideal S16x1x16x64 .f32) (k v : FVec Ideal S128x16x16x64 .f32) (bt : IVec S16x128 32) (lens : IVec S16 32)
    (e : fn (F := Ideal) q k v bt lens = fun _ => 1#1) : Says q k bt lens := by
  rw [fn_eq] at e
  obtain ⟨e12, e3⟩ := IntOp.andi_eq_one.1 (congrFun e ix0)
  obtain ⟨e1, e2⟩ := IntOp.andi_eq_one.1 e12
  have live1 : ∀ (b : Fin 16) (j : Fin 128), (j.val : ℤ) < (lens (ix1 b)).toInt → liveW lens (ix2 b j) = 1#1 := fun b j h => by
    rw [liveW_at, decide_eq_true h]; rfl
  refine ⟨fun b => ?_, fun b j hj => ?_, fun b h o j l hj hl => ?_⟩
  · have := Host.reduce_andi_all _ _ _ _ _ e1 (ix1 b)
    rw [someW_at] at this
    exact IntOp.cmpi_sgt.1 this
  · have := Host.reduce_andi_all _ _ _ _ _ e2 (ix2 b j)
    rw [pagesW_at, live1 b j hj] at this
    rcases IntOp.ori_eq_one.1 this with h | h
    · exact absurd h (by decide)
    · obtain ⟨h1, h2⟩ := IntOp.andi_eq_one.1 h
      have h1' : 0 ≤ (bt (ix2 b j)).toInt := IntOp.cmpi_sge.1 h1
      have h2' : (bt (ix2 b j)).toInt < 512 := IntOp.cmpi_slt.1 h2
      rw [WordCmp.toInt_nonneg_iff_lt_half] at h1'
      rw [BitVec.toInt_eq_toNat_of_lt (by omega)] at h2'
      omega
  · have := Host.reduce_andi_all _ _ _ _ _ e3 (ix5 b 0 h l o)
    rw [boundW_at, scoreW_at] at this
    rcases IntOp.ori_eq_one.1 this with hi | hs
    · refine absurd hi (idleW_at _ b j l ?_)
      rw [namedW_at, live1 b j hj]
      refine IntOp.andi_eq_one.2 ⟨rfl, ?_⟩
      rw [WordCmp.cmpi_eq_eq, decide_eq_true]
      · rfl
      · refine BitVec.eq_of_toNat_eq ?_
        show ((bt (ix2 b j)) &&& 127#32).toNat = _
        rw [BitVec.toNat_and, BitVec.toNat_ofNat, BitVec.toNat_ofNat]
        have : (bt (ix2 b j)).toNat &&& (127 % 2 ^ 32) = (bt (ix2 b j)).toNat % 128 := Nat.and_two_pow_sub_one_eq_mod _ 7
        have := l.isLt
        omega
    · obtain ⟨h1, h2⟩ := IntOp.andi_eq_one.1 hs
      exact ⟨(WordCmp.ofBool_decide_eq_one_iff _).1 h1, (WordCmp.ofBool_decide_eq_one_iff _).1 h2⟩

/-- The precondition on every device, the pages being the devices' blocks: the whole arguments are good. -/
theorem good (A : Args) (k : Fin 4 → FVec Ideal S128x16x16x64 .f32) (hk : ∀ z l o h d, k z (ix4 l o h d) = A.K (ix4 (pageOf z l) o h d))
    (hs : ∀ z, Says A.Q (k z) A.bt A.lens) : Good A where
  someLive b := ⟨0, (hs 0).some b⟩
  inPages b j := (hs 0).pages b j
  bounded b h z i hc := by
    obtain ⟨j, hj, hn⟩ := cnt_pos _ _ hc
    have hb := (hs z).bound b h i.2 j i.1 hj (congrArg (fun x => x.2.val) hn)
    have e : (∑ d : Fin 64, k z (ix4 i.1 i.2 h d) * A.Q (ix4 b 0 h d)) * scale = scoreOf A b h z i := by
      unfold scoreOf
      simp only [hk]
      exact congrArg (· * scale) (Finset.sum_congr rfl fun d _ => mul_comm _ _)
    rw [e] at hb
    exact hb

end Cert.Value.Pre

end
-- ==== Proof.Value.Equation.lean ====
/- The kernel's result and the reference's are one array, wherever the precondition holds. -/
module

public import proofs.«01_k».proof.Defs
public import proofs.«01_k».proof.Proof.Value.Combine
public import proofs.«01_k».proof.Proof.Value.Reference
public import proofs.«01_k».proof.Proof.Value.Pre

@[expose] public section

noncomputable section

namespace Cert.Value

open Cert.KernelIdeal Cert.KernelIdeal.Gen Cert.KernelIdeal.Paged
open Idealize.ShloMosaic Idealize.ShloMosaic.TcCoe
open scoped BigOperators

/-- A device's block of the pages, at an index. -/
theorem block_at (c : Dev nD) (x : (⟨4, ![512, 16, 16, 64]⟩ : Shape).Idx → EReal) (l : Fin 128) (o h : Fin 16) (d : Fin 64) :
    (Layout.blockN ⟨4, ![128, 16, 16, 64]⟩ ⟨4, ![512, 16, 16, 64]⟩ (Layout.meshBlock [2, 2, 4] ![[2], [], [], []] c) x) (ix4 l o h d)
      = x (ix4 (pageOf (zOf c) l) o h d) := by
  rw [Layout.blockN_apply]
  refine congrArg x (funext fun a => Fin.ext ?_)
  rw [Layout.TilesN.idx_val, Layout.meshBlock_val]
  fin_cases a
  · show (c.val / 1 % 4 * 1 + 0) * 128 + l.val = 128 * (c.val % 4) + l.val
    omega
  · show 0 * 16 + o.val = o.val
    omega
  · show 0 * 16 + h.val = h.val
    omega
  · show 0 * 64 + d.val = d.val
    omega

/-- The result as the caller gets it: the kernel's array, a dimension of one put in. -/
theorem cast_out (g : FVec Ideal S16x16x64 .f32) (b h : Fin 16) (d : Fin 64) :
    shapeCast S16x1x16x64 g shapeCasts_S16x16x64_S16x1x16x64 (ix4 b 0 h d) = g (ix3 b h d) := by
  pointwise []

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The whole arguments, as the reference is given them. -/
def argsOf : Args where
  Q := m' (((0 : Dev Cert.ReferenceIdeal.nD).tc : Thread Cert.ReferenceIdeal.nD Cert.ReferenceIdeal.τ).loc Cert.ReferenceIdeal.main_arg0)
  K := m' (((0 : Dev Cert.ReferenceIdeal.nD).tc : Thread Cert.ReferenceIdeal.nD Cert.ReferenceIdeal.τ).loc Cert.ReferenceIdeal.main_arg1)
  V := m' (((0 : Dev Cert.ReferenceIdeal.nD).tc : Thread Cert.ReferenceIdeal.nD Cert.ReferenceIdeal.τ).loc Cert.ReferenceIdeal.main_arg2)
  bt := m' (((0 : Dev Cert.ReferenceIdeal.nD).tc : Thread Cert.ReferenceIdeal.nD Cert.ReferenceIdeal.τ).loc Cert.ReferenceIdeal.main_arg3)
  lens := m' (((0 : Dev Cert.ReferenceIdeal.nD).tc : Thread Cert.ReferenceIdeal.nD Cert.ReferenceIdeal.τ).loc Cert.ReferenceIdeal.main_arg4)

/-- Each device holds its block of the pages, and the other arguments whole. -/
def Given : Prop := ∀ c : Dev nD,
  m ((c : Thread nD τ).loc main_arg0) = (argsOf m').Q
  ∧ m ((c : Thread nD τ).loc main_arg1) = Layout.blockN ⟨4, ![128, 16, 16, 64]⟩ ⟨4, ![512, 16, 16, 64]⟩
      (Layout.meshBlock [2, 2, 4] ![[2], [], [], []] c) (argsOf m').K
  ∧ m ((c : Thread nD τ).loc main_arg2) = Layout.blockN ⟨4, ![128, 16, 16, 64]⟩ ⟨4, ![512, 16, 16, 64]⟩
      (Layout.meshBlock [2, 2, 4] ![[2], [], [], []] c) (argsOf m').V
  ∧ m ((c : Thread nD τ).loc main_arg3) = (argsOf m').bt
  ∧ m ((c : Thread nD τ).loc main_arg4) = (argsOf m').lens

variable {m m'}

/-- The precondition on every device makes the whole arguments good. -/
theorem args_good [Cert.Pre_attends_KernelIdeal.Facts] (hp : Cert.Pre_KernelIdeal_attends_KernelIdeal m) (hm : Given m m') :
    Good (argsOf m') := by
  refine Pre.good _ (fun z => Layout.blockN ⟨4, ![128, 16, 16, 64]⟩ ⟨4, ![512, 16, 16, 64]⟩
    (Layout.meshBlock [2, 2, 4] ![[2], [], [], []] (peer 0 z)) (argsOf m').K) (fun z l o h d => ?_) fun z => ?_
  · rw [block_at, zOf_peer]
  · obtain ⟨h0, h1, h2, h3, h4⟩ := hm (peer 0 z)
    have e := Pre.says_of _ _ _ _ _ (hp (peer 0 z))
    rw [h0, h1, h3, h4] at e
    exact e

/-- Every device's result is the reference's. -/
theorem results_eq [Cert.Pre_attends_KernelIdeal.Facts] (hp : Cert.Pre_KernelIdeal_attends_KernelIdeal m) (hm : Given m m') (c : Dev nD) :
    shapeCast S16x1x16x64 (outOf (staged m) c) shapeCasts_S16x16x64_S16x1x16x64 = Cert.ReferenceIdeal.Value.res_main_v38 m' 0 := by
  have hA := args_good hp hm
  have hX : ∀ c : Dev nD, Holds (argsOf m') (zOf c) (staged m c) := fun c => by
    obtain ⟨h0, h1, h2, h3, h4⟩ := hm c
    refine staged_holds (A := argsOf m') m c (fun b h d => ?_) (fun l o h d => ?_) (fun l o h d => ?_) (fun b j => ?_) fun b => ?_
    · rw [h0]
    · rw [h1]; exact block_at c _ l o h d
    · rw [h2]; exact block_at c _ l o h d
    · rw [h3]
    · rw [h4]
  refine funext fun i => ?_
  have ei : i = ix4 (i 0) 0 (i 2) (i 3) := by
    funext a
    fin_cases a
    · rfl
    · exact Fin.ext (Nat.lt_one_iff.1 (i 1).isLt)
    · rfl
    · rfl
  rw [ei]
  refine (cast_out _ (i 0) (i 2) (i 3)).trans ?_
  refine (outOf_at (A := argsOf m') (fun z => ?_) hA (i 0) (i 2) (i 3)).trans ?_
  · have := hX (peer c z)
    rw [zOf_peer] at this
    exact this
  · exact (res_at m' 0 (argsOf m') rfl rfl rfl rfl rfl hA (i 0) (i 2) (i 3)).symm

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Equation
public import Idealize.ShloMosaic.Adequacy
public import Idealize.ShloMosaic.Init

@[expose] public section

noncomputable section

namespace Cert.Proof

open Idealize.ShloMosaic Idealize.SL.Sem

/-- The kernel ends, its arguments unchanged, every counter at zero. -/
theorem kernel_frame : Cert.quiescent_Kernel := fun m g _ =>
  (θ_run Cert.Kernel.defs _ _).mono (fun _ h => ⟨fun c => (h.1 c).2, h.2⟩) (Cert.Kernel.Paged.run_ends (F := Bits) m g)

/-- The same of its reading at the extended reals. -/
theorem kernelIdeal_frame : Cert.quiescent_KernelIdeal := fun m g _ =>
  (θ_run Cert.KernelIdeal.defs _ _).mono (fun _ h => ⟨fun c => (h.1 c).2, h.2⟩) (Cert.KernelIdeal.Paged.run_ends (F := Ideal) m g)

/-- The reference ends, its arguments unchanged; it has no semaphore. -/
theorem referenceIdeal_frame : Cert.quiescent_ReferenceIdeal := fun m g _ =>
  (θ_run Cert.ReferenceIdeal.defs _ _).mono (fun r h => ⟨fun c => (h c).2, sem_eq_zero_of_no_sems (by decide) r.2⟩) (Cert.ReferenceIdeal.Value.run (F := Ideal) m g)

/-- The same under the precondition, which it does not need. -/
theorem kernelIdeal_frame_pre [Cert.Pre_attends_KernelIdeal.Facts] : Cert.quiescent_KernelIdeal_pre_attends_KernelIdeal :=
  fun m g _ => kernelIdeal_frame m g trivial

theorem referenceIdeal_frame_pre [Cert.Pre_attends_ReferenceIdeal.Facts] : Cert.quiescent_ReferenceIdeal_pre_attends_ReferenceIdeal :=
  fun m g _ => referenceIdeal_frame m g trivial

/-- Over the extended reals, where the precondition holds, each device's result is the reference's. -/
theorem algebraic [Cert.Pre_attends_KernelIdeal.Facts] : Cert.algebraic_KernelIdeal_ReferenceIdeal_pre_attends_KernelIdeal :=
  fun m g m' g' hp hm => ⟨Cert.ReferenceIdeal.Value.res_main_v38 m' 0,
    (θ_run Cert.KernelIdeal.defs _ _).mono (fun _ h c => ⟨(h.1 c).1.trans (Cert.Value.results_eq hp hm c), (h.1 c).2⟩)
      (Cert.KernelIdeal.Paged.run_ends (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  Cert.Value.Pre.facts, Cert.Value.Pre.facts_whole, kernel_frame, kernelIdeal_frame,
  @kernelIdeal_frame_pre Cert.Value.Pre.facts, referenceIdeal_frame,
  @referenceIdeal_frame_pre Cert.Value.Pre.facts_whole, trivial,
  @algebraic Cert.Value.Pre.facts⟩

end Cert.Proof

end
